-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_tame [hPre_tame : Cert.Pre_tame.Facts] (m : (ℓ : Loc Cert.KernelIdeal.nD Cert.KernelIdeal.τ Cert.KernelIdeal.sig) → Buf (Elt Ideal) ℓ) : Prop :=
  ∀ c : Dev Cert.KernelIdeal.nD,
    (Cert.Pre_tame.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_tame [hPre_tame : Cert.Pre_tame.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_tame.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11))) = (fun _ => 1#1)

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10)
      ∧ r.2.mem ((c.tc : Thread Cert.Kernel.nD Cert.Kernel.τ).loc Cert.Kernel.main_arg11) = m ((c.tc : Thread Cert.Kernel.nD Cert.Kernel.τ).loc Cert.Kernel.main_arg11))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11))
      ∧ r.2.sem = fun _ => 0)

def quiescent_KernelIdeal_pre_tame [hKernelIdeal : Cert.KernelIdeal.Facts] [hPre_tame : Cert.Pre_tame.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_tame m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11))
      ∧ r.2.sem = fun _ => 0)

def quiescent_ReferenceIdeal_pre_tame [hReferenceIdeal : Cert.ReferenceIdeal.Facts] [hPre_tame : Cert.Pre_tame.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_tame m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11))
      ∧ r.2.sem = fun _ => 0)

def preserves_Kernel_KernelIdeal : Prop :=
  True

def algebraic_KernelIdeal_ReferenceIdeal_pre_tame [hKernelIdeal : Cert.KernelIdeal.Facts] [hReferenceIdeal : Cert.ReferenceIdeal.Facts] [hPre_tame : Cert.Pre_tame.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_tame m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)
      ∧ m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11)) →
    ∃ (v0 : (c : Dev Cert.KernelIdeal.nD) → Buf (Elt Ideal) ((c.tc : Thread Cert.KernelIdeal.nD Cert.KernelIdeal.τ).loc Cert.KernelIdeal.main_v68)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v68) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
          ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v87) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10)
          ∧ r.2.mem ((c.tc : Thread Cert.ReferenceIdeal.nD Cert.ReferenceIdeal.τ).loc Cert.ReferenceIdeal.main_arg11) = m' ((c.tc : Thread Cert.ReferenceIdeal.nD Cert.ReferenceIdeal.τ).loc Cert.ReferenceIdeal.main_arg11))

def Claim : Prop :=
  ∃ (hKernel : Cert.Kernel.Facts) (hKernelIdeal : Cert.KernelIdeal.Facts) (hReferenceIdeal : Cert.ReferenceIdeal.Facts) (hPre_tame : Cert.Pre_tame.Facts),
    quiescent_Kernel (hKernel := hKernel)
    ∧ quiescent_KernelIdeal (hKernelIdeal := hKernelIdeal)
    ∧ quiescent_KernelIdeal_pre_tame (hKernelIdeal := hKernelIdeal) (hPre_tame := hPre_tame)
    ∧ quiescent_ReferenceIdeal (hReferenceIdeal := hReferenceIdeal)
    ∧ quiescent_ReferenceIdeal_pre_tame (hReferenceIdeal := hReferenceIdeal) (hPre_tame := hPre_tame)
    ∧ preserves_Kernel_KernelIdeal
    ∧ algebraic_KernelIdeal_ReferenceIdeal_pre_tame (hKernelIdeal := hKernelIdeal) (hReferenceIdeal := hReferenceIdeal) (hPre_tame := hPre_tame)
-- ==== Pre_tame.lean ====
abbrev S4x3x8192 : Shape := ⟨3, ![4, 3, 8192]⟩
abbrev S4x3x2048 : Shape := ⟨3, ![4, 3, 2048]⟩
abbrev S4x64x8192 : Shape := ⟨3, ![4, 64, 8192]⟩
abbrev S4x64x2048 : Shape := ⟨3, ![4, 64, 2048]⟩
abbrev S128x128 : Shape := ⟨2, ![128, 128]⟩
abbrev S128 : Shape := ⟨1, ![128]⟩
abbrev S_ : Shape := ⟨0, ![]⟩
abbrev S4x8192x3 : Shape := ⟨3, ![4, 8192, 3]⟩
abbrev S4x2048x3 : Shape := ⟨3, ![4, 2048, 3]⟩
abbrev S4x8192 : Shape := ⟨2, ![4, 8192]⟩
abbrev S4x8192x1 : Shape := ⟨3, ![4, 8192, 1]⟩
abbrev S4x2048 : Shape := ⟨2, ![4, 2048]⟩
abbrev S4x1x2048 : Shape := ⟨3, ![4, 1, 2048]⟩
abbrev S4x8192x2048 : Shape := ⟨3, ![4, 8192, 2048]⟩
abbrev S4x8192x4 : Shape := ⟨3, ![4, 8192, 4]⟩

class Facts : Prop where
  bcast_S_S4x3x8192 : S_.BroadcastsInDim S4x3x8192 (![] : Fin 0 → Fin S4x3x8192.rank)
  reducesTo_S4x3x8192_S_d0_1_2 : S4x3x8192.ReducesTo [0, 1, 2] S_
  h_S_ : 0 < S_.numel
  bcast_S_S4x3x2048 : S_.BroadcastsInDim S4x3x2048 (![] : Fin 0 → Fin S4x3x2048.rank)
  reducesTo_S4x3x2048_S_d0_1_2 : S4x3x2048.ReducesTo [0, 1, 2] S_
  bcast_S_S4x64x8192 : S_.BroadcastsInDim S4x64x8192 (![] : Fin 0 → Fin S4x64x8192.rank)
  reducesTo_S4x64x8192_S_d0_1_2 : S4x64x8192.ReducesTo [0, 1, 2] S_
  bcast_S_S4x64x2048 : S_.BroadcastsInDim S4x64x2048 (![] : Fin 0 → Fin S4x64x2048.rank)
  reducesTo_S4x64x2048_S_d0_1_2 : S4x64x2048.ReducesTo [0, 1, 2] S_
  bcast_S_S128x128 : S_.BroadcastsInDim S128x128 (![] : Fin 0 → Fin S128x128.rank)
  reducesTo_S128x128_S_d0_1 : S128x128.ReducesTo [0, 1] S_
  bcast_S_S128 : S_.BroadcastsInDim S128 (![] : Fin 0 → Fin S128.rank)
  reducesTo_S128_S_d0 : S128.ReducesTo [0] S_
  transposes_S4x3x8192_S4x8192x3_0_2_1 : S4x3x8192.Transposes [0, 2, 1] S4x8192x3
  transposes_S4x3x2048_S4x2048x3_0_2_1 : S4x3x2048.Transposes [0, 2, 1] S4x2048x3
  reducesTo_S4x8192x3_S4x8192_d2 : S4x8192x3.ReducesTo [2] S4x8192
  bcast_S4x8192_S4x8192x1_0_1 : S4x8192.BroadcastsInDim S4x8192x1 (![0, 1] : Fin 2 → Fin S4x8192x1.rank)
  reducesTo_S4x2048x3_S4x2048_d2 : S4x2048x3.ReducesTo [2] S4x2048
  bcast_S4x2048_S4x1x2048_0_2 : S4x2048.BroadcastsInDim S4x1x2048 (![0, 2] : Fin 2 → Fin S4x1x2048.rank)
  bcast_S4x8192x1_S4x8192x2048_0_1_2 : S4x8192x1.BroadcastsInDim S4x8192x2048 (![0, 1, 2] : Fin 3 → Fin S4x8192x2048.rank)
  bcast_S4x1x2048_S4x8192x2048_0_1_2 : S4x1x2048.BroadcastsInDim S4x8192x2048 (![0, 1, 2] : Fin 3 → Fin S4x8192x2048.rank)
  bcast_S_S4x8192x2048 : S_.BroadcastsInDim S4x8192x2048 (![] : Fin 0 → Fin S4x8192x2048.rank)
  sliceFits_S4x8192x2048_S4x8192x4 : S4x8192x2048.Slices (fun _ => 0) S4x8192x4
  slices_S4x8192x4_S4x8192x1_0_0_2 : S4x8192x4.Slices ![0, 0, 2] S4x8192x1
  shapeCasts_S4x8192x1_S4x8192 : S4x8192x1.ShapeCasts S4x8192
  slices_S4x8192x4_S4x8192x1_0_0_3 : S4x8192x4.Slices ![0, 0, 3] S4x8192x1
  reducesTo_S4x8192_S_d0_1 : S4x8192.ReducesTo [0, 1] S_
  dot_S4x8192x3_S4x2048x3_S4x8192x2048_2_2_1_1_0_0_wf : DotDims.WF S4x8192x3 S4x2048x3 S4x8192x2048 [2] [2] [1] [1] [0] [0]

variable [Facts]

def dot_S4x8192x3_S4x2048x3_S4x8192x2048_2_2_1_1_0_0 : DotDims S4x8192x3 S4x2048x3 S4x8192x2048 where
  lhsContracting := [2]
  rhsContracting := [2]
  lhsNonContracting := [1]
  rhsNonContracting := [1]
  lhsBatch := [0]
  rhsBatch := [0]
  wf := dot_S4x8192x3_S4x2048x3_S4x8192x2048_2_2_1_1_0_0_wf
def fn_part4 {F : FTy → Type} [FloatOps F] (main_v11 : IVec S_ 1) (main_v15 : IVec S_ 1) (main_v19 : IVec S_ 1) (main_v23 : IVec S_ 1) (main_v27 : IVec S_ 1) (main_v31 : IVec S_ 1) (main_v35 : IVec S_ 1) (main_v39 : IVec S_ 1) (main_v43 : IVec S_ 1) (main_v67 : IVec S_ 1) : IVec S_ 1 :=
  let main_v68 : IVec S_ 1 := andi main_v67 main_v11
  let main_v69 : IVec S_ 1 := andi main_v68 main_v15
  let main_v70 : IVec S_ 1 := andi main_v69 main_v19
  let main_v71 : IVec S_ 1 := andi main_v70 main_v23
  let main_v72 : IVec S_ 1 := andi main_v71 main_v27
  let main_v73 : IVec S_ 1 := andi main_v72 main_v31
  let main_v74 : IVec S_ 1 := andi main_v73 main_v35
  let main_v75 : IVec S_ 1 := andi main_v74 main_v39
  let main_v76 : IVec S_ 1 := andi main_v75 main_v43
  main_v76

def fn_part3 {F : FTy → Type} [FloatOps F] (main_v3 : IVec S_ 1) (main_v7 : IVec S_ 1) (main_v11 : IVec S_ 1) (main_v15 : IVec S_ 1) (main_v19 : IVec S_ 1) (main_v23 : IVec S_ 1) (main_v27 : IVec S_ 1) (main_v31 : IVec S_ 1) (main_v35 : IVec S_ 1) (main_v39 : IVec S_ 1) (main_v43 : IVec S_ 1) (main_v44 : FVec F S4x8192x3 .f32) (main_v45 : FVec F S4x2048x3 .f32) (main_v48 : FVec F S4x8192x1 .f32) : IVec S_ 1 :=
  let main_v49 : FVec F S4x2048x3 .f32 := mulf main_v45 main_v45
  let main_cst_21 : FVec F S_ .f32 := constant S_ .f32 0x00000000#32
  let main_v50 : FVec F S4x2048 .f32 := (fun x v => Host.reduceAdd x v reducesTo_S4x2048x3_S4x2048_d2 h_S_) main_v49 main_cst_21
  let main_v51 : FVec F S4x1x2048 .f32 := broadcastInDim S4x1x2048 ![0, 2] bcast_S4x2048_S4x1x2048_0_2 main_v50
  let main_v52 : FVec F S4x8192x2048 .f32 := broadcastInDim S4x8192x2048 ![0, 1, 2] bcast_S4x8192x1_S4x8192x2048_0_1_2 main_v48
  let main_v53 : FVec F S4x8192x2048 .f32 := broadcastInDim S4x8192x2048 ![0, 1, 2] bcast_S4x1x2048_S4x8192x2048_0_1_2 main_v51
  let main_v54 : FVec F S4x8192x2048 .f32 := addf main_v52 main_v53
  let main_v55 : FVec F S4x8192x2048 .f32 := (fun l r => Host.dotGeneral dot_S4x8192x3_S4x2048x3_S4x8192x2048_2_2_1_1_0_0 none l r) main_v44 main_v45
  let main_cst_22 : FVec F S_ .f32 := constant S_ .f32 0x40000000#32
  let main_v56 : FVec F S4x8192x2048 .f32 := broadcastInDim S4x8192x2048 ![] bcast_S_S4x8192x2048 main_cst_22
  let main_v57 : FVec F S4x8192x2048 .f32 := mulf main_v56 main_v55
  let main_v58 : FVec F S4x8192x2048 .f32 := subf main_v54 main_v57
  let main_v59 : FVec F S4x8192x2048 .f32 := Host.negf main_v58
  let main_values : FVec F S4x8192x4 .f32 := (fun x => (Host.topK S4x8192x4 2 (FloatOps.cmpfTotal .gt) x sliceFits_S4x8192x2048_S4x8192x4).1) main_v59
  let main_indices : IVec S4x8192x4 32 := (fun x => (Host.topK S4x8192x4 2 (FloatOps.cmpfTotal .gt) x sliceFits_S4x8192x2048_S4x8192x4).2) main_v59
  let main_v60 : FVec F S4x8192x1 .f32 := (extractStridedSlice S4x8192x1 ![0, 0, 2] · slices_S4x8192x4_S4x8192x1_0_0_2) main_values
  let main_v61 : FVec F S4x8192 .f32 := shapeCast S4x8192 main_v60 shapeCasts_S4x8192x1_S4x8192
  let main_v62 : FVec F S4x8192x1 .f32 := (extractStridedSlice S4x8192x1 ![0, 0, 3] · slices_S4x8192x4_S4x8192x1_0_0_3) main_values
  let main_v63 : FVec F S4x8192 .f32 := shapeCast S4x8192 main_v62 shapeCasts_S4x8192x1_S4x8192
  let main_v64 : IVec S4x8192 1 := cmpf .ogt main_v61 main_v63
  let main_c_23 : IVec S_ 1 := constantI S_ 1 1#1
  let main_v65 : IVec S_ 1 := (fun x v => Host.reduce IntOp.andi x v reducesTo_S4x8192_S_d0_1 h_S_) main_v64 main_c_23
  let main_v66 : IVec S_ 1 := andi main_v65 main_v3
  let main_v67 : IVec S_ 1 := andi main_v66 main_v7
  fn_part4 (F := F) main_v11 main_v15 main_v19 main_v23 main_v27 main_v31 main_v35 main_v39 main_v43 main_v67

def fn_part2 {F : FTy → Type} [FloatOps F] (main_arg0 : FVec F S4x3x8192 .f32) (main_arg1 : FVec F S4x3x2048 .f32) (main_arg8 : FVec F S128x128 .f32) (main_arg9 : FVec F S128 .f32) (main_arg10 : FVec F S128 .f32) (main_v3 : IVec S_ 1) (main_v7 : IVec S_ 1) (main_v11 : IVec S_ 1) (main_v15 : IVec S_ 1) (main_v19 : IVec S_ 1) (main_v23 : IVec S_ 1) (main_v27 : IVec S_ 1) (main_v31 : IVec S_ 1) : IVec S_ 1 :=
  let main_v32 : FVec F S128x128 .f32 := Host.absf main_arg8
  let main_cst_14 : FVec F S_ .f32 := constant S_ .f32 0x7F800000#32
  let main_v33 : FVec F S128x128 .f32 := broadcastInDim S128x128 ![] bcast_S_S128x128 main_cst_14
  let main_v34 : IVec S128x128 1 := cmpf .olt main_v32 main_v33
  let main_c_15 : IVec S_ 1 := constantI S_ 1 1#1
  let main_v35 : IVec S_ 1 := (fun x v => Host.reduce IntOp.andi x v reducesTo_S128x128_S_d0_1 h_S_) main_v34 main_c_15
  let main_v36 : FVec F S128 .f32 := Host.absf main_arg9
  let main_cst_16 : FVec F S_ .f32 := constant S_ .f32 0x7F800000#32
  let main_v37 : FVec F S128 .f32 := broadcastInDim S128 ![] bcast_S_S128 main_cst_16
  let main_v38 : IVec S128 1 := cmpf .olt main_v36 main_v37
  let main_c_17 : IVec S_ 1 := constantI S_ 1 1#1
  let main_v39 : IVec S_ 1 := (fun x v => Host.reduce IntOp.andi x v reducesTo_S128_S_d0 h_S_) main_v38 main_c_17
  let main_v40 : FVec F S128 .f32 := Host.absf main_arg10
  let main_cst_18 : FVec F S_ .f32 := constant S_ .f32 0x7F800000#32
  let main_v41 : FVec F S128 .f32 := broadcastInDim S128 ![] bcast_S_S128 main_cst_18
  let main_v42 : IVec S128 1 := cmpf .olt main_v40 main_v41
  let main_c_19 : IVec S_ 1 := constantI S_ 1 1#1
  let main_v43 : IVec S_ 1 := (fun x v => Host.reduce IntOp.andi x v reducesTo_S128_S_d0 h_S_) main_v42 main_c_19
  let main_v44 : FVec F S4x8192x3 .f32 := (transpose S4x8192x3 [0, 2, 1] · transposes_S4x3x8192_S4x8192x3_0_2_1) main_arg0
  let main_v45 : FVec F S4x2048x3 .f32 := (transpose S4x2048x3 [0, 2, 1] · transposes_S4x3x2048_S4x2048x3_0_2_1) main_arg1
  let main_v46 : FVec F S4x8192x3 .f32 := mulf main_v44 main_v44
  let main_cst_20 : FVec F S_ .f32 := constant S_ .f32 0x00000000#32
  let main_v47 : FVec F S4x8192 .f32 := (fun x v => Host.reduceAdd x v reducesTo_S4x8192x3_S4x8192_d2 h_S_) main_v46 main_cst_20
  let main_v48 : FVec F S4x8192x1 .f32 := broadcastInDim S4x8192x1 ![0, 1] bcast_S4x8192_S4x8192x1_0_1 main_v47
  fn_part3 (F := F) main_v3 main_v7 main_v11 main_v15 main_v19 main_v23 main_v27 main_v31 main_v35 main_v39 main_v43 main_v44 main_v45 main_v48

def fn_part1 {F : FTy → Type} [FloatOps F] (main_arg0 : FVec F S4x3x8192 .f32) (main_arg1 : FVec F S4x3x2048 .f32) (main_arg4 : FVec F S128x128 .f32) (main_arg5 : FVec F S128 .f32) (main_arg6 : FVec F S128 .f32) (main_arg7 : FVec F S128 .f32) (main_arg8 : FVec F S128x128 .f32) (main_arg9 : FVec F S128 .f32) (main_arg10 : FVec F S128 .f32) (main_v3 : IVec S_ 1) (main_v7 : IVec S_ 1) (main_v11 : IVec S_ 1) (main_v15 : IVec S_ 1) : IVec S_ 1 :=
  let main_v16 : FVec F S128x128 .f32 := Host.absf main_arg4
  let main_cst_6 : FVec F S_ .f32 := constant S_ .f32 0x7F800000#32
  let main_v17 : FVec F S128x128 .f32 := broadcastInDim S128x128 ![] bcast_S_S128x128 main_cst_6
  let main_v18 : IVec S128x128 1 := cmpf .olt main_v16 main_v17
  let main_c_7 : IVec S_ 1 := constantI S_ 1 1#1
  let main_v19 : IVec S_ 1 := (fun x v => Host.reduce IntOp.andi x v reducesTo_S128x128_S_d0_1 h_S_) main_v18 main_c_7
  let main_v20 : FVec F S128 .f32 := Host.absf main_arg5
  let main_cst_8 : FVec F S_ .f32 := constant S_ .f32 0x7F800000#32
  let main_v21 : FVec F S128 .f32 := broadcastInDim S128 ![] bcast_S_S128 main_cst_8
  let main_v22 : IVec S128 1 := cmpf .olt main_v20 main_v21
  let main_c_9 : IVec S_ 1 := constantI S_ 1 1#1
  let main_v23 : IVec S_ 1 := (fun x v => Host.reduce IntOp.andi x v reducesTo_S128_S_d0 h_S_) main_v22 main_c_9
  let main_v24 : FVec F S128 .f32 := Host.absf main_arg6
  let main_cst_10 : FVec F S_ .f32 := constant S_ .f32 0x7F800000#32
  let main_v25 : FVec F S128 .f32 := broadcastInDim S128 ![] bcast_S_S128 main_cst_10
  let main_v26 : IVec S128 1 := cmpf .olt main_v24 main_v25
  let main_c_11 : IVec S_ 1 := constantI S_ 1 1#1
  let main_v27 : IVec S_ 1 := (fun x v => Host.reduce IntOp.andi x v reducesTo_S128_S_d0 h_S_) main_v26 main_c_11
  let main_v28 : FVec F S128 .f32 := Host.absf main_arg7
  let main_cst_12 : FVec F S_ .f32 := constant S_ .f32 0x7F800000#32
  let main_v29 : FVec F S128 .f32 := broadcastInDim S128 ![] bcast_S_S128 main_cst_12
  let main_v30 : IVec S128 1 := cmpf .olt main_v28 main_v29
  let main_c_13 : IVec S_ 1 := constantI S_ 1 1#1
  let main_v31 : IVec S_ 1 := (fun x v => Host.reduce IntOp.andi x v reducesTo_S128_S_d0 h_S_) main_v30 main_c_13
  fn_part2 (F := F) main_arg0 main_arg1 main_arg8 main_arg9 main_arg10 main_v3 main_v7 main_v11 main_v15 main_v19 main_v23 main_v27 main_v31

def fn {F : FTy → Type} [FloatOps F] (main_arg0 : FVec F S4x3x8192 .f32) (main_arg1 : FVec F S4x3x2048 .f32) (main_arg2 : FVec F S4x64x8192 .f32) (main_arg3 : FVec F S4x64x2048 .f32) (main_arg4 : FVec F S128x128 .f32) (main_arg5 : FVec F S128 .f32) (main_arg6 : FVec F S128 .f32) (main_arg7 : FVec F S128 .f32) (main_arg8 : FVec F S128x128 .f32) (main_arg9 : FVec F S128 .f32) (main_arg10 : FVec F S128 .f32) (main_arg11 : FVec F S128 .f32) : IVec S_ 1 :=
  let main_v0 : FVec F S4x3x8192 .f32 := Host.absf main_arg0
  let main_cst : FVec F S_ .f32 := constant S_ .f32 0x7F800000#32
  let main_v1 : FVec F S4x3x8192 .f32 := broadcastInDim S4x3x8192 ![] bcast_S_S4x3x8192 main_cst
  let main_v2 : IVec S4x3x8192 1 := cmpf .olt main_v0 main_v1
  let main_c : IVec S_ 1 := constantI S_ 1 1#1
  let main_v3 : IVec S_ 1 := (fun x v => Host.reduce IntOp.andi x v reducesTo_S4x3x8192_S_d0_1_2 h_S_) main_v2 main_c
  let main_v4 : FVec F S4x3x2048 .f32 := Host.absf main_arg1
  let main_cst_0 : FVec F S_ .f32 := constant S_ .f32 0x7F800000#32
  let main_v5 : FVec F S4x3x2048 .f32 := broadcastInDim S4x3x2048 ![] bcast_S_S4x3x2048 main_cst_0
  let main_v6 : IVec S4x3x2048 1 := cmpf .olt main_v4 main_v5
  let main_c_1 : IVec S_ 1 := constantI S_ 1 1#1
  let main_v7 : IVec S_ 1 := (fun x v => Host.reduce IntOp.andi x v reducesTo_S4x3x2048_S_d0_1_2 h_S_) main_v6 main_c_1
  let main_v8 : FVec F S4x64x8192 .f32 := Host.absf main_arg2
  let main_cst_2 : FVec F S_ .f32 := constant S_ .f32 0x7F800000#32
  let main_v9 : FVec F S4x64x8192 .f32 := broadcastInDim S4x64x8192 ![] bcast_S_S4x64x8192 main_cst_2
  let main_v10 : IVec S4x64x8192 1 := cmpf .olt main_v8 main_v9
  let main_c_3 : IVec S_ 1 := constantI S_ 1 1#1
  let main_v11 : IVec S_ 1 := (fun x v => Host.reduce IntOp.andi x v reducesTo_S4x64x8192_S_d0_1_2 h_S_) main_v10 main_c_3
  let main_v12 : FVec F S4x64x2048 .f32 := Host.absf main_arg3
  let main_cst_4 : FVec F S_ .f32 := constant S_ .f32 0x7F800000#32
  let main_v13 : FVec F S4x64x2048 .f32 := broadcastInDim S4x64x2048 ![] bcast_S_S4x64x2048 main_cst_4
  let main_v14 : IVec S4x64x2048 1 := cmpf .olt main_v12 main_v13
  let main_c_5 : IVec S_ 1 := constantI S_ 1 1#1
  let main_v15 : IVec S_ 1 := (fun x v => Host.reduce IntOp.andi x v reducesTo_S4x64x2048_S_d0_1_2 h_S_) main_v14 main_c_5
  fn_part1 (F := F) main_arg0 main_arg1 main_arg4 main_arg5 main_arg6 main_arg7 main_arg8 main_arg9 main_arg10 main_v3 main_v7 main_v11 main_v15
-- ==== Kernel.lean ====
abbrev S4x3x8192 : Shape := ⟨3, ![4, 3, 8192]⟩
abbrev S4x3x2048 : Shape := ⟨3, ![4, 3, 2048]⟩
abbrev S4x64x8192 : Shape := ⟨3, ![4, 64, 8192]⟩
abbrev S4x64x2048 : Shape := ⟨3, ![4, 64, 2048]⟩
abbrev S128x128 : Shape := ⟨2, ![128, 128]⟩
abbrev S128 : Shape := ⟨1, ![128]⟩
abbrev S4x128x8192 : Shape := ⟨3, ![4, 128, 8192]⟩
abbrev S136x136 : Shape := ⟨2, ![136, 136]⟩
abbrev S1x3x512 : Shape := ⟨3, ![1, 3, 512]⟩
abbrev S1x3x2048 : Shape := ⟨3, ![1, 3, 2048]⟩
abbrev S1x64x512 : Shape := ⟨3, ![1, 64, 512]⟩
abbrev S1x64x2048 : Shape := ⟨3, ![1, 64, 2048]⟩
abbrev S1x128x512 : Shape := ⟨3, ![1, 128, 512]⟩
abbrev S3x512 : Shape := ⟨2, ![3, 512]⟩
abbrev S3x2048 : Shape := ⟨2, ![3, 2048]⟩
abbrev S512 : Shape := ⟨1, ![512]⟩
abbrev S2048 : Shape := ⟨1, ![2048]⟩
abbrev S2048x512 : Shape := ⟨2, ![2048, 512]⟩
abbrev S2048x1 : Shape := ⟨2, ![2048, 1]⟩
abbrev S1x512 : Shape := ⟨2, ![1, 512]⟩
abbrev S128x512 : Shape := ⟨2, ![128, 512]⟩
abbrev S64x512 : Shape := ⟨2, ![64, 512]⟩
abbrev S32x512 : Shape := ⟨2, ![32, 512]⟩
abbrev S16x512 : Shape := ⟨2, ![16, 512]⟩
abbrev S8x512 : Shape := ⟨2, ![8, 512]⟩
abbrev S4x512 : Shape := ⟨2, ![4, 512]⟩
abbrev S2x512 : Shape := ⟨2, ![2, 512]⟩
abbrev S64x2048 : Shape := ⟨2, ![64, 2048]⟩
abbrev S136x512 : Shape := ⟨2, ![136, 512]⟩
abbrev S1x128 : Shape := ⟨2, ![1, 128]⟩
abbrev S_ : Shape := ⟨0, ![]⟩
abbrev S128x1 : Shape := ⟨2, ![128, 1]⟩
abbrev S128x7 : Shape := ⟨2, ![128, 7]⟩
abbrev S128x136 : Shape := ⟨2, ![128, 136]⟩

abbrev nBuf : Space → Nat
  | .hbm => 95
  | .vmem => 22
  | .smem => 0
  | _ => 0

abbrev bufTy : (tb : Table) → Fin (tcTables nBuf tb) → BufTy
  | .hbm, ⟨0, _⟩ => ⟨S4x3x8192, .f32⟩
  | .hbm, ⟨1, _⟩ => ⟨S4x3x2048, .f32⟩
  | .hbm, ⟨2, _⟩ => ⟨S4x64x8192, .f32⟩
  | .hbm, ⟨3, _⟩ => ⟨S4x64x2048, .f32⟩
  | .hbm, ⟨4, _⟩ => ⟨S128x128, .f32⟩
  | .hbm, ⟨5, _⟩ => ⟨S128, .f32⟩
  | .hbm, ⟨6, _⟩ => ⟨S128, .f32⟩
  | .hbm, ⟨7, _⟩ => ⟨S128, .f32⟩
  | .hbm, ⟨8, _⟩ => ⟨S128x128, .f32⟩
  | .hbm, ⟨9, _⟩ => ⟨S128, .f32⟩
  | .hbm, ⟨10, _⟩ => ⟨S128, .f32⟩
  | .hbm, ⟨11, _⟩ => ⟨S128, .f32⟩
  | .hbm, ⟨12, _⟩ => ⟨S4x128x8192, .f32⟩
  | .hbm, ⟨13, _⟩ => ⟨S136x136, .f32⟩
  | .hbm, ⟨14, _⟩ => ⟨S128x128, .f32⟩
  | .hbm, ⟨15, _⟩ => ⟨S1x128, .f32⟩
  | .hbm, ⟨16, _⟩ => ⟨S128, .f32⟩
  | .hbm, ⟨17, _⟩ => ⟨S_, .f32⟩
  | .hbm, ⟨18, _⟩ => ⟨S128, .f32⟩
  | .hbm, ⟨19, _⟩ => ⟨S128, .f32⟩
  | .hbm, ⟨20, _⟩ => ⟨S128, .f32⟩
  | .hbm, ⟨21, _⟩ => ⟨S128, .f32⟩
  | .hbm, ⟨22, _⟩ => ⟨S128x128, .f32⟩
  | .hbm, ⟨23, _⟩ => ⟨S128x128, .f32⟩
  | .hbm, ⟨24, _⟩ => ⟨S_, .f32⟩
  | .hbm, ⟨25, _⟩ => ⟨S128, .f32⟩
  | .hbm, ⟨26, _⟩ => ⟨S_, .f32⟩
  | .hbm, ⟨27, _⟩ => ⟨S128, .f32⟩
  | .hbm, ⟨28, _⟩ => ⟨S128, .f32⟩
  | .hbm, ⟨29, _⟩ => ⟨S_, .f32⟩
  | .hbm, ⟨30, _⟩ => ⟨S128, .f32⟩
  | .hbm, ⟨31, _⟩ => ⟨S128, .f32⟩
  | .hbm, ⟨32, _⟩ => ⟨S128, .f32⟩
  | .hbm, ⟨33, _⟩ => ⟨S128, .f32⟩
  | .hbm, ⟨34, _⟩ => ⟨S128, .f32⟩
  | .hbm, ⟨35, _⟩ => ⟨S128, .f32⟩
  | .hbm, ⟨36, _⟩ => ⟨S128, .f32⟩
  | .hbm, ⟨37, _⟩ => ⟨S128, .f32⟩
  | .hbm, ⟨38, _⟩ => ⟨S_, .f32⟩
  | .hbm, ⟨39, _⟩ => ⟨S128, .f32⟩
  | .hbm, ⟨40, _⟩ => ⟨S128, .f32⟩
  | .hbm, ⟨41, _⟩ => ⟨S128, .f32⟩
  | .hbm, ⟨42, _⟩ => ⟨S128, .f32⟩
  | .hbm, ⟨43, _⟩ => ⟨S128x1, .f32⟩
  | .hbm, ⟨44, _⟩ => ⟨S128x128, .f32⟩
  | .hbm, ⟨45, _⟩ => ⟨S128x128, .f32⟩
  | .hbm, ⟨46, _⟩ => ⟨S128, .f32⟩
  | .hbm, ⟨47, _⟩ => ⟨S128, .f32⟩
  | .hbm, ⟨48, _⟩ => ⟨S128, .f32⟩
  | .hbm, ⟨49, _⟩ => ⟨S128x1, .f32⟩
  | .hbm, ⟨50, _⟩ => ⟨S_, .f32⟩
  | .hbm, ⟨51, _⟩ => ⟨S128x7, .f32⟩
  | .hbm, ⟨52, _⟩ => ⟨S128x136, .f32⟩
  | .hbm, ⟨53, _⟩ => ⟨S4x128x8192, .f32⟩
  | .hbm, ⟨54, _⟩ => ⟨S136x136, .f32⟩
  | .hbm, ⟨55, _⟩ => ⟨S128x128, .f32⟩
  | .hbm, ⟨56, _⟩ => ⟨S1x128, .f32⟩
  | .hbm, ⟨57, _⟩ => ⟨S128, .f32⟩
  | .hbm, ⟨58, _⟩ => ⟨S_, .f32⟩
  | .hbm, ⟨59, _⟩ => ⟨S128, .f32⟩
  | .hbm, ⟨60, _⟩ => ⟨S128, .f32⟩
  | .hbm, ⟨61, _⟩ => ⟨S128, .f32⟩
  | .hbm, ⟨62, _⟩ => ⟨S128, .f32⟩
  | .hbm, ⟨63, _⟩ => ⟨S128x128, .f32⟩
  | .hbm, ⟨64, _⟩ => ⟨S128x128, .f32⟩
  | .hbm, ⟨65, _⟩ => ⟨S_, .f32⟩
  | .hbm, ⟨66, _⟩ => ⟨S128, .f32⟩
  | .hbm, ⟨67, _⟩ => ⟨S_, .f32⟩
  | .hbm, ⟨68, _⟩ => ⟨S128, .f32⟩
  | .hbm, ⟨69, _⟩ => ⟨S128, .f32⟩
  | .hbm, ⟨70, _⟩ => ⟨S_, .f32⟩
  | .hbm, ⟨71, _⟩ => ⟨S128, .f32⟩
  | .hbm, ⟨72, _⟩ => ⟨S128, .f32⟩
  | .hbm, ⟨73, _⟩ => ⟨S128, .f32⟩
  | .hbm, ⟨74, _⟩ => ⟨S128, .f32⟩
  | .hbm, ⟨75, _⟩ => ⟨S128, .f32⟩
  | .hbm, ⟨76, _⟩ => ⟨S128, .f32⟩
  | .hbm, ⟨77, _⟩ => ⟨S128, .f32⟩
  | .hbm, ⟨78, _⟩ => ⟨S128, .f32⟩
  | .hbm, ⟨79, _⟩ => ⟨S_, .f32⟩
  | .hbm, ⟨80, _⟩ => ⟨S128, .f32⟩
  | .hbm, ⟨81, _⟩ => ⟨S128, .f32⟩
  | .hbm, ⟨82, _⟩ => ⟨S128, .f32⟩
  | .hbm, ⟨83, _⟩ => ⟨S128, .f32⟩
  | .hbm, ⟨84, _⟩ => ⟨S128x1, .f32⟩
  | .hbm, ⟨85, _⟩ => ⟨S128x128, .f32⟩
  | .hbm, ⟨86, _⟩ => ⟨S128x128, .f32⟩
  | .hbm, ⟨87, _⟩ => ⟨S128, .f32⟩
  | .hbm, ⟨88, _⟩ => ⟨S128, .f32⟩
  | .hbm, ⟨89, _⟩ => ⟨S128, .f32⟩
  | .hbm, ⟨90, _⟩ => ⟨S128x1, .f32⟩
  | .hbm, ⟨91, _⟩ => ⟨S_, .f32⟩
  | .hbm, ⟨92, _⟩ => ⟨S128x7, .f32⟩
  | .hbm, ⟨93, _⟩ => ⟨S128x136, .f32⟩
  | .hbm, ⟨94, _⟩ => ⟨S4x128x8192, .f32⟩
  | .local _ .vmem, ⟨0, _⟩ => ⟨S1x3x512, .f32⟩
  | .local _ .vmem, ⟨1, _⟩ => ⟨S1x3x512, .f32⟩
  | .local _ .vmem, ⟨2, _⟩ => ⟨S1x3x2048, .f32⟩
  | .local _ .vmem, ⟨3, _⟩ => ⟨S1x3x2048, .f32⟩
  | .local _ .vmem, ⟨4, _⟩ => ⟨S1x64x512, .f32⟩
  | .local _ .vmem, ⟨5, _⟩ => ⟨S1x64x512, .f32⟩
  | .local _ .vmem, ⟨6, _⟩ => ⟨S1x64x2048, .f32⟩
  | .local _ .vmem, ⟨7, _⟩ => ⟨S1x64x2048, .f32⟩
  | .local _ .vmem, ⟨8, _⟩ => ⟨S1x128x512, .f32⟩
  | .local _ .vmem, ⟨9, _⟩ => ⟨S1x128x512, .f32⟩
  | .local _ .vmem, ⟨10, _⟩ => ⟨S136x136, .f32⟩
  | .local _ .vmem, ⟨11, _⟩ => ⟨S1x128x512, .f32⟩
  | .local _ .vmem, ⟨12, _⟩ => ⟨S1x128x512, .f32⟩
  | .local _ .vmem, ⟨13, _⟩ => ⟨S128x136, .f32⟩
  | .local _ .vmem, ⟨14, _⟩ => ⟨S1x128x512, .f32⟩
  | .local _ .vmem, ⟨15, _⟩ => ⟨S1x128x512, .f32⟩
  | .local _ .vmem, ⟨16, _⟩ => ⟨S136x136, .f32⟩
  | .local _ .vmem, ⟨17, _⟩ => ⟨S1x128x512, .f32⟩
  | .local _ .vmem, ⟨18, _⟩ => ⟨S1x128x512, .f32⟩
  | .local _ .vmem, ⟨19, _⟩ => ⟨S128x136, .f32⟩
  | .local _ .vmem, ⟨20, _⟩ => ⟨S1x128x512, .f32⟩
  | .local _ .vmem, ⟨21, _⟩ => ⟨S1x128x512, .f32⟩
  | _, _ => ⟨S4x3x8192, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | _, _ => false

abbrev semScoped : Fin 0 → Bool
  | ⟨_, h⟩ => absurd h (Nat.not_lt_zero _)

abbrev dmaSemScoped : Fin 22 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | _ => false

abbrev sig : RefSig :=
  ofTc nBuf bufTy 0 22 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_v0_0 : Ref sig .tc := ⟨.hbm, 12, rfl⟩
abbrev main_v0_1 : Ref sig .tc := ⟨.hbm, 13, rfl⟩
abbrev main_v1 : Ref sig .tc := ⟨.hbm, 14, rfl⟩
abbrev main_v2 : Ref sig .tc := ⟨.hbm, 15, rfl⟩
abbrev main_v3 : Ref sig .tc := ⟨.hbm, 16, rfl⟩
abbrev main_cst : Ref sig .tc := ⟨.hbm, 17, rfl⟩
abbrev main_v4 : Ref sig .tc := ⟨.hbm, 18, rfl⟩
abbrev main_v5 : Ref sig .tc := ⟨.hbm, 19, rfl⟩
abbrev main_v6 : Ref sig .tc := ⟨.hbm, 20, rfl⟩
abbrev main_v7 : Ref sig .tc := ⟨.hbm, 21, rfl⟩
abbrev main_v8 : Ref sig .tc := ⟨.hbm, 22, rfl⟩
abbrev main_v9 : Ref sig .tc := ⟨.hbm, 23, rfl⟩
abbrev main_cst_0 : Ref sig .tc := ⟨.hbm, 24, rfl⟩
abbrev main_v10 : Ref sig .tc := ⟨.hbm, 25, rfl⟩
abbrev main_cst_1 : Ref sig .tc := ⟨.hbm, 26, rfl⟩
abbrev main_v11 : Ref sig .tc := ⟨.hbm, 27, rfl⟩
abbrev main_v12 : Ref sig .tc := ⟨.hbm, 28, rfl⟩
abbrev main_cst_2 : Ref sig .tc := ⟨.hbm, 29, rfl⟩
abbrev main_v13 : Ref sig .tc := ⟨.hbm, 30, rfl⟩
abbrev main_v14 : Ref sig .tc := ⟨.hbm, 31, rfl⟩
abbrev main_v15 : Ref sig .tc := ⟨.hbm, 32, rfl⟩
abbrev main_v16 : Ref sig .tc := ⟨.hbm, 33, rfl⟩
abbrev main_v17 : Ref sig .tc := ⟨.hbm, 34, rfl⟩
abbrev main_v18 : Ref sig .tc := ⟨.hbm, 35, rfl⟩
abbrev main_v19 : Ref sig .tc := ⟨.hbm, 36, rfl⟩
abbrev main_v20 : Ref sig .tc := ⟨.hbm, 37, rfl⟩
abbrev main_cst_3 : Ref sig .tc := ⟨.hbm, 38, rfl⟩
abbrev main_v21 : Ref sig .tc := ⟨.hbm, 39, rfl⟩
abbrev main_v22 : Ref sig .tc := ⟨.hbm, 40, rfl⟩
abbrev main_v23 : Ref sig .tc := ⟨.hbm, 41, rfl⟩
abbrev main_v24 : Ref sig .tc := ⟨.hbm, 42, rfl⟩
abbrev main_v25 : Ref sig .tc := ⟨.hbm, 43, rfl⟩
abbrev main_v26 : Ref sig .tc := ⟨.hbm, 44, rfl⟩
abbrev main_v27 : Ref sig .tc := ⟨.hbm, 45, rfl⟩
abbrev main_v28 : Ref sig .tc := ⟨.hbm, 46, rfl⟩
abbrev main_v29 : Ref sig .tc := ⟨.hbm, 47, rfl⟩
abbrev main_v30 : Ref sig .tc := ⟨.hbm, 48, rfl⟩
abbrev main_v31 : Ref sig .tc := ⟨.hbm, 49, rfl⟩
abbrev main_cst_4 : Ref sig .tc := ⟨.hbm, 50, rfl⟩
abbrev main_v32 : Ref sig .tc := ⟨.hbm, 51, rfl⟩
abbrev main_v33 : Ref sig .tc := ⟨.hbm, 52, rfl⟩
abbrev main_v34_0 : Ref sig .tc := ⟨.hbm, 53, rfl⟩
abbrev main_v34_1 : Ref sig .tc := ⟨.hbm, 54, rfl⟩
abbrev main_v35 : Ref sig .tc := ⟨.hbm, 55, rfl⟩
abbrev main_v36 : Ref sig .tc := ⟨.hbm, 56, rfl⟩
abbrev main_v37 : Ref sig .tc := ⟨.hbm, 57, rfl⟩
abbrev main_cst_5 : Ref sig .tc := ⟨.hbm, 58, rfl⟩
abbrev main_v38 : Ref sig .tc := ⟨.hbm, 59, rfl⟩
abbrev main_v39 : Ref sig .tc := ⟨.hbm, 60, rfl⟩
abbrev main_v40 : Ref sig .tc := ⟨.hbm, 61, rfl⟩
abbrev main_v41 : Ref sig .tc := ⟨.hbm, 62, rfl⟩
abbrev main_v42 : Ref sig .tc := ⟨.hbm, 63, rfl⟩
abbrev main_v43 : Ref sig .tc := ⟨.hbm, 64, rfl⟩
abbrev main_cst_6 : Ref sig .tc := ⟨.hbm, 65, rfl⟩
abbrev main_v44 : Ref sig .tc := ⟨.hbm, 66, rfl⟩
abbrev main_cst_7 : Ref sig .tc := ⟨.hbm, 67, rfl⟩
abbrev main_v45 : Ref sig .tc := ⟨.hbm, 68, rfl⟩
abbrev main_v46 : Ref sig .tc := ⟨.hbm, 69, rfl⟩
abbrev main_cst_8 : Ref sig .tc := ⟨.hbm, 70, rfl⟩
abbrev main_v47 : Ref sig .tc := ⟨.hbm, 71, rfl⟩
abbrev main_v48 : Ref sig .tc := ⟨.hbm, 72, rfl⟩
abbrev main_v49 : Ref sig .tc := ⟨.hbm, 73, rfl⟩
abbrev main_v50 : Ref sig .tc := ⟨.hbm, 74, rfl⟩
abbrev main_v51 : Ref sig .tc := ⟨.hbm, 75, rfl⟩
abbrev main_v52 : Ref sig .tc := ⟨.hbm, 76, rfl⟩
abbrev main_v53 : Ref sig .tc := ⟨.hbm, 77, rfl⟩
abbrev main_v54 : Ref sig .tc := ⟨.hbm, 78, rfl⟩
abbrev main_cst_9 : Ref sig .tc := ⟨.hbm, 79, rfl⟩
abbrev main_v55 : Ref sig .tc := ⟨.hbm, 80, rfl⟩
abbrev main_v56 : Ref sig .tc := ⟨.hbm, 81, rfl⟩
abbrev main_v57 : Ref sig .tc := ⟨.hbm, 82, rfl⟩
abbrev main_v58 : Ref sig .tc := ⟨.hbm, 83, rfl⟩
abbrev main_v59 : Ref sig .tc := ⟨.hbm, 84, rfl⟩
abbrev main_v60 : Ref sig .tc := ⟨.hbm, 85, rfl⟩
abbrev main_v61 : Ref sig .tc := ⟨.hbm, 86, rfl⟩
abbrev main_v62 : Ref sig .tc := ⟨.hbm, 87, rfl⟩
abbrev main_v63 : Ref sig .tc := ⟨.hbm, 88, rfl⟩
abbrev main_v64 : Ref sig .tc := ⟨.hbm, 89, rfl⟩
abbrev main_v65 : Ref sig .tc := ⟨.hbm, 90, rfl⟩
abbrev main_cst_10 : Ref sig .tc := ⟨.hbm, 91, rfl⟩
abbrev main_v66 : Ref sig .tc := ⟨.hbm, 92, rfl⟩
abbrev main_v67 : Ref sig .tc := ⟨.hbm, 93, rfl⟩
abbrev main_v68 : Ref sig .tc := ⟨.hbm, 94, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc1_stg0_0 : Ref sig .tc := ⟨.vmem, 11, rfl⟩
abbrev cc1_stg0_1 : Ref sig .tc := ⟨.vmem, 12, rfl⟩
abbrev cc1_stg1_0 : Ref sig .tc := ⟨.vmem, 13, rfl⟩
abbrev cc1_stg2_0 : Ref sig .tc := ⟨.vmem, 14, rfl⟩
abbrev cc1_stg2_1 : Ref sig .tc := ⟨.vmem, 15, rfl⟩
abbrev cc1_stg3_0 : Ref sig .tc := ⟨.vmem, 16, rfl⟩
abbrev cc2_stg0_0 : Ref sig .tc := ⟨.vmem, 17, rfl⟩
abbrev cc2_stg0_1 : Ref sig .tc := ⟨.vmem, 18, rfl⟩
abbrev cc2_stg1_0 : Ref sig .tc := ⟨.vmem, 19, rfl⟩
abbrev cc2_stg2_0 : Ref sig .tc := ⟨.vmem, 20, rfl⟩
abbrev cc2_stg2_1 : Ref sig .tc := ⟨.vmem, 21, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc1_sem0_0 : DmaSem sig := 11
abbrev cc1_sem0_1 : DmaSem sig := 12
abbrev cc1_sem1_0 : DmaSem sig := 13
abbrev cc1_sem2_0 : DmaSem sig := 14
abbrev cc1_sem2_1 : DmaSem sig := 15
abbrev cc1_sem3_0 : DmaSem sig := 16
abbrev cc2_sem0_0 : DmaSem sig := 17
abbrev cc2_sem0_1 : DmaSem sig := 18
abbrev cc2_sem1_0 : DmaSem sig := 19
abbrev cc2_sem2_0 : DmaSem sig := 20
abbrev cc2_sem2_1 : DmaSem sig := 21

abbrev nD : Nat := 1
abbrev τ : Topo := Topo.v7x

variable {F : FTy → Type} [FloatOps F]

abbrev grid0 : Pipeline.Grid := ⟨2, ![4, 16], ![false, false]⟩

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat, arg1.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat, arg1.toNat]

def cc0_transform_3 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_4 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat, arg1.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S1x3x512 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x3x2048 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 2 → Memref sig .tc .vmem S1x64x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S1x64x2048 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, false]

abbrev stage0_4 : Fin 2 → Memref sig .tc .vmem S1x128x512 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev stage0_5 : Fin 1 → Memref sig .tc .vmem S136x136 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false, false]

abbrev grid1 : Pipeline.Grid := ⟨2, ![4, 16], ![false, false]⟩

def cc1_transform_0 (i : grid1.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat, arg1.toNat]

def cc1_transform_1 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc1_transform_2 (i : grid1.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat, arg1.toNat]

def cc1_transform_3 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

abbrev stage1_0 : Fin 2 → Memref sig .tc .vmem S1x128x512 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true, true]

abbrev stage1_1 : Fin 1 → Memref sig .tc .vmem S128x136 .f32 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))
abbrev reads1_1 : Fin grid1.rank → Bool := ![false, false]

abbrev stage1_2 : Fin 2 → Memref sig .tc .vmem S1x128x512 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true, true]

abbrev stage1_3 : Fin 1 → Memref sig .tc .vmem S136x136 .f32 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))
abbrev reads1_3 : Fin grid1.rank → Bool := ![false, false]

abbrev grid2 : Pipeline.Grid := ⟨2, ![4, 16], ![false, false]⟩

def cc2_transform_0 (i : grid2.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat, arg1.toNat]

def cc2_transform_1 (i : grid2.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc2_transform_2 (i : grid2.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat, arg1.toNat]

abbrev stage2_0 : Fin 2 → Memref sig .tc .vmem S1x128x512 .f32 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true, true]

abbrev stage2_1 : Fin 1 → Memref sig .tc .vmem S128x136 .f32 := fun | 0 => Memref.whole cc2_stg1_0 | ⟨_ + 1, h⟩ => absurd h (Nat.not_lt.2 (Nat.le_add_left _ _))
abbrev sem2_1 : Fin 1 → DmaSem sig := fun | 0 => cc2_sem1_0 | ⟨_ + 1, h⟩ => absurd h (Nat.not_lt.2 (Nat.le_add_left _ _))
abbrev reads2_1 : Fin grid2.rank → Bool := ![false, false]

abbrev stage2_2 : Fin 2 → Memref sig .tc .vmem S1x128x512 .f32 := fun | 0 => Memref.whole cc2_stg2_0 | 1 => Memref.whole cc2_stg2_1 | ⟨_ + 2, h⟩ => absurd h (Nat.not_lt.2 (Nat.le_add_left _ _))
abbrev sem2_2 : Fin 2 → DmaSem sig := fun | 0 => cc2_sem2_0 | 1 => cc2_sem2_1 | ⟨_ + 2, h⟩ => absurd h (Nat.not_lt.2 (Nat.le_add_left _ _))
abbrev reads2_2 : Fin grid2.rank → Bool := ![true, true]
-- ==== ReferenceIdeal.lean ====
abbrev S4x3x8192 : Shape := ⟨3, ![4, 3, 8192]⟩
abbrev S4x3x2048 : Shape := ⟨3, ![4, 3, 2048]⟩
abbrev S4x64x8192 : Shape := ⟨3, ![4, 64, 8192]⟩
abbrev S4x64x2048 : Shape := ⟨3, ![4, 64, 2048]⟩
abbrev S128x128 : Shape := ⟨2, ![128, 128]⟩
abbrev S128 : Shape := ⟨1, ![128]⟩
abbrev S4x8192x3 : Shape := ⟨3, ![4, 8192, 3]⟩
abbrev S4x2048x3 : Shape := ⟨3, ![4, 2048, 3]⟩
abbrev S4x2048x64 : Shape := ⟨3, ![4, 2048, 64]⟩
abbrev S_ : Shape := ⟨0, ![]⟩
abbrev S4x8192 : Shape := ⟨2, ![4, 8192]⟩
abbrev S4x8192x1 : Shape := ⟨3, ![4, 8192, 1]⟩
abbrev S4x2048 : Shape := ⟨2, ![4, 2048]⟩
abbrev S4x1x2048 : Shape := ⟨3, ![4, 1, 2048]⟩
abbrev S4x8192x2048 : Shape := ⟨3, ![4, 8192, 2048]⟩
abbrev S4x8192x3x1 : Shape := ⟨4, ![4, 8192, 3, 1]⟩
abbrev S4x8192x3x64 : Shape := ⟨4, ![4, 8192, 3, 64]⟩
abbrev S4x8192x64 : Shape := ⟨3, ![4, 8192, 64]⟩
abbrev S4x8192x128 : Shape := ⟨3, ![4, 8192, 128]⟩
abbrev S4x128x8192 : Shape := ⟨3, ![4, 128, 8192]⟩
abbrev S1x128x1 : Shape := ⟨3, ![1, 128, 1]⟩

abbrev nBuf : Space → Nat
  | .hbm => 167
  | .vmem => 0
  | .smem => 0
  | _ => 0

abbrev hbmTy0_0 (i : Nat) : BufTy := match i % 128 with
  | 0 => ⟨S4x3x8192, .f32⟩
  | 1 => ⟨S4x3x2048, .f32⟩
  | 2 => ⟨S4x64x8192, .f32⟩
  | 3 => ⟨S4x64x2048, .f32⟩
  | 4 => ⟨S128x128, .f32⟩
  | 5 => ⟨S128, .f32⟩
  | 6 => ⟨S128, .f32⟩
  | 7 => ⟨S128, .f32⟩
  | 8 => ⟨S128x128, .f32⟩
  | 9 => ⟨S128, .f32⟩
  | 10 => ⟨S128, .f32⟩
  | 11 => ⟨S128, .f32⟩
  | 12 => ⟨S4x8192x3, .f32⟩
  | 13 => ⟨S4x2048x3, .f32⟩
  | 14 => ⟨S4x2048x64, .f32⟩
  | 15 => ⟨S4x8192x3, .f32⟩
  | 16 => ⟨S_, .f32⟩
  | 17 => ⟨S4x8192, .f32⟩
  | 18 => ⟨S4x8192x1, .f32⟩
  | 19 => ⟨S4x2048x3, .f32⟩
  | 20 => ⟨S_, .f32⟩
  | 21 => ⟨S4x2048, .f32⟩
  | 22 => ⟨S4x1x2048, .f32⟩
  | 23 => ⟨S4x8192x2048, .f32⟩
  | 24 => ⟨S4x8192x2048, .f32⟩
  | 25 => ⟨S4x8192x2048, .f32⟩
  | 26 => ⟨S4x8192x2048, .f32⟩
  | 27 => ⟨S_, .f32⟩
  | 28 => ⟨S4x8192x2048, .f32⟩
  | 29 => ⟨S4x8192x2048, .f32⟩
  | 30 => ⟨S4x8192x2048, .f32⟩
  | 31 => ⟨S4x8192x2048, .f32⟩
  | 32 => ⟨S4x8192x3, .f32⟩
  | 33 => ⟨S4x8192x3, .i32⟩
  | 34 => ⟨S4x8192x3, .f32⟩
  | 35 => ⟨S_, .f32⟩
  | 36 => ⟨S4x8192x3, .f32⟩
  | 37 => ⟨S4x8192x3, .f32⟩
  | 38 => ⟨S_, .f32⟩
  | 39 => ⟨S4x8192x3, .f32⟩
  | 40 => ⟨S4x8192x3, .f32⟩
  | 41 => ⟨S_, .f32⟩
  | 42 => ⟨S4x8192, .f32⟩
  | 43 => ⟨S4x8192x1, .f32⟩
  | 44 => ⟨S4x8192x3, .f32⟩
  | 45 => ⟨S4x8192x3, .f32⟩
  | 46 => ⟨S_, .i32⟩
  | 47 => ⟨S4x8192x3, .i32⟩
  | 48 => ⟨S4x8192x3, .i1⟩
  | 49 => ⟨S_, .i32⟩
  | 50 => ⟨S4x8192x3, .i32⟩
  | 51 => ⟨S4x8192x3, .i32⟩
  | 52 => ⟨S4x8192x3, .i32⟩
  | 53 => ⟨S4x8192x3x1, .i32⟩
  | 54 => ⟨S4x8192x3x64, .f32⟩
  | 55 => ⟨S4x8192x3x1, .f32⟩
  | 56 => ⟨S4x8192x3x64, .f32⟩
  | 57 => ⟨S4x8192x3x64, .f32⟩
  | 58 => ⟨S_, .f32⟩
  | 59 => ⟨S4x8192x64, .f32⟩
  | 60 => ⟨S4x8192x64, .f32⟩
  | 61 => ⟨S4x8192x128, .f32⟩
  | 62 => ⟨S4x128x8192, .f32⟩
  | 63 => ⟨S4x8192x128, .f32⟩
  | 64 => ⟨S4x128x8192, .f32⟩
  | 65 => ⟨S1x128x1, .f32⟩
  | 66 => ⟨S4x128x8192, .f32⟩
  | 67 => ⟨S4x128x8192, .f32⟩
  | 68 => ⟨S_, .f32⟩
  | 69 => ⟨S128, .f32⟩
  | 70 => ⟨S1x128x1, .f32⟩
  | 71 => ⟨S_, .f32⟩
  | 72 => ⟨S1x128x1, .f32⟩
  | 73 => ⟨S1x128x1, .f32⟩
  | 74 => ⟨S_, .i32⟩
  | 75 => ⟨S_, .f32⟩
  | 76 => ⟨S128, .f32⟩
  | 77 => ⟨S1x128x1, .f32⟩
  | 78 => ⟨S_, .f32⟩
  | 79 => ⟨S1x128x1, .f32⟩
  | 80 => ⟨S1x128x1, .f32⟩
  | 81 => ⟨S4x128x8192, .f32⟩
  | 82 => ⟨S4x128x8192, .f32⟩
  | 83 => ⟨S4x128x8192, .f32⟩
  | 84 => ⟨S_, .f32⟩
  | 85 => ⟨S_, .f32⟩
  | 86 => ⟨S_, .f32⟩
  | 87 => ⟨S_, .f32⟩
  | 88 => ⟨S128, .f32⟩
  | 89 => ⟨S1x128x1, .f32⟩
  | 90 => ⟨S1x128x1, .f32⟩
  | 91 => ⟨S1x128x1, .f32⟩
  | 92 => ⟨S_, .f32⟩
  | 93 => ⟨S_, .i1⟩
  | 94 => ⟨S_, .f32⟩
  | 95 => ⟨S_, .f32⟩
  | 96 => ⟨S1x128x1, .f32⟩
  | 97 => ⟨S1x128x1, .f32⟩
  | 98 => ⟨S4x128x8192, .f32⟩
  | 99 => ⟨S4x128x8192, .f32⟩
  | 100 => ⟨S_, .f32⟩
  | 101 => ⟨S1x128x1, .f32⟩
  | 102 => ⟨S1x128x1, .f32⟩
  | 103 => ⟨S1x128x1, .f32⟩
  | 104 => ⟨S4x128x8192, .f32⟩
  | 105 => ⟨S4x128x8192, .f32⟩
  | 106 => ⟨S1x128x1, .f32⟩
  | 107 => ⟨S4x128x8192, .f32⟩
  | 108 => ⟨S4x128x8192, .f32⟩
  | 109 => ⟨S1x128x1, .f32⟩
  | 110 => ⟨S4x128x8192, .f32⟩
  | 111 => ⟨S4x128x8192, .f32⟩
  | 112 => ⟨S_, .f32⟩
  | 113 => ⟨S4x128x8192, .f32⟩
  | 114 => ⟨S4x128x8192, .f32⟩
  | 115 => ⟨S4x8192x128, .f32⟩
  | 116 => ⟨S4x128x8192, .f32⟩
  | 117 => ⟨S1x128x1, .f32⟩
  | 118 => ⟨S4x128x8192, .f32⟩
  | 119 => ⟨S4x128x8192, .f32⟩
  | 120 => ⟨S_, .f32⟩
  | 121 => ⟨S128, .f32⟩
  | 122 => ⟨S1x128x1, .f32⟩
  | 123 => ⟨S_, .f32⟩
  | 124 => ⟨S1x128x1, .f32⟩
  | 125 => ⟨S1x128x1, .f32⟩
  | 126 => ⟨S_, .i32⟩
  | 127 => ⟨S_, .f32⟩
  | _ => ⟨S4x3x8192, .f32⟩

abbrev hbmTy0_1 (i : Nat) : BufTy := match i % 128 with
  | 0 => ⟨S128, .f32⟩
  | 1 => ⟨S1x128x1, .f32⟩
  | 2 => ⟨S_, .f32⟩
  | 3 => ⟨S1x128x1, .f32⟩
  | 4 => ⟨S1x128x1, .f32⟩
  | 5 => ⟨S4x128x8192, .f32⟩
  | 6 => ⟨S4x128x8192, .f32⟩
  | 7 => ⟨S4x128x8192, .f32⟩
  | 8 => ⟨S_, .f32⟩
  | 9 => ⟨S_, .f32⟩
  | 10 => ⟨S_, .f32⟩
  | 11 => ⟨S_, .f32⟩
  | 12 => ⟨S128, .f32⟩
  | 13 => ⟨S1x128x1, .f32⟩
  | 14 => ⟨S1x128x1, .f32⟩
  | 15 => ⟨S1x128x1, .f32⟩
  | 16 => ⟨S_, .f32⟩
  | 17 => ⟨S_, .i1⟩
  | 18 => ⟨S_, .f32⟩
  | 19 => ⟨S_, .f32⟩
  | 20 => ⟨S1x128x1, .f32⟩
  | 21 => ⟨S1x128x1, .f32⟩
  | 22 => ⟨S4x128x8192, .f32⟩
  | 23 => ⟨S4x128x8192, .f32⟩
  | 24 => ⟨S_, .f32⟩
  | 25 => ⟨S1x128x1, .f32⟩
  | 26 => ⟨S1x128x1, .f32⟩
  | 27 => ⟨S1x128x1, .f32⟩
  | 28 => ⟨S4x128x8192, .f32⟩
  | 29 => ⟨S4x128x8192, .f32⟩
  | 30 => ⟨S1x128x1, .f32⟩
  | 31 => ⟨S4x128x8192, .f32⟩
  | 32 => ⟨S4x128x8192, .f32⟩
  | 33 => ⟨S1x128x1, .f32⟩
  | 34 => ⟨S4x128x8192, .f32⟩
  | 35 => ⟨S4x128x8192, .f32⟩
  | 36 => ⟨S_, .f32⟩
  | 37 => ⟨S4x128x8192, .f32⟩
  | 38 => ⟨S4x128x8192, .f32⟩
  | _ => ⟨S4x3x8192, .f32⟩

abbrev hbmTy (i : Nat) : BufTy := match i / 128 with
  | 0 => hbmTy0_0 i
  | 1 => hbmTy0_1 i
  | _ => ⟨S4x3x8192, .f32⟩

abbrev bufTy : (tb : Table) → Fin (tcTables nBuf tb) → BufTy
  | .hbm, ⟨i, _⟩ => hbmTy i
  | _, _ => ⟨S4x3x8192, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_v0 : Ref sig .tc := ⟨.hbm, 12, rfl⟩
abbrev main_v1 : Ref sig .tc := ⟨.hbm, 13, rfl⟩
abbrev main_v2 : Ref sig .tc := ⟨.hbm, 14, rfl⟩
abbrev main_v3 : Ref sig .tc := ⟨.hbm, 15, rfl⟩
abbrev main_cst : Ref sig .tc := ⟨.hbm, 16, rfl⟩
abbrev main_v4 : Ref sig .tc := ⟨.hbm, 17, rfl⟩
abbrev main_v5 : Ref sig .tc := ⟨.hbm, 18, rfl⟩
abbrev main_v6 : Ref sig .tc := ⟨.hbm, 19, rfl⟩
abbrev main_cst_0 : Ref sig .tc := ⟨.hbm, 20, rfl⟩
abbrev main_v7 : Ref sig .tc := ⟨.hbm, 21, rfl⟩
abbrev main_v8 : Ref sig .tc := ⟨.hbm, 22, rfl⟩
abbrev main_v9 : Ref sig .tc := ⟨.hbm, 23, rfl⟩
abbrev main_v10 : Ref sig .tc := ⟨.hbm, 24, rfl⟩
abbrev main_v11 : Ref sig .tc := ⟨.hbm, 25, rfl⟩
abbrev main_v12 : Ref sig .tc := ⟨.hbm, 26, rfl⟩
abbrev main_cst_1 : Ref sig .tc := ⟨.hbm, 27, rfl⟩
abbrev main_v13 : Ref sig .tc := ⟨.hbm, 28, rfl⟩
abbrev main_v14 : Ref sig .tc := ⟨.hbm, 29, rfl⟩
abbrev main_v15 : Ref sig .tc := ⟨.hbm, 30, rfl⟩
abbrev main_v16 : Ref sig .tc := ⟨.hbm, 31, rfl⟩
abbrev main_values : Ref sig .tc := ⟨.hbm, 32, rfl⟩
abbrev main_indices : Ref sig .tc := ⟨.hbm, 33, rfl⟩
abbrev main_v17 : Ref sig .tc := ⟨.hbm, 34, rfl⟩
abbrev main_cst_2 : Ref sig .tc := ⟨.hbm, 35, rfl⟩
abbrev main_v18 : Ref sig .tc := ⟨.hbm, 36, rfl⟩
abbrev main_v19 : Ref sig .tc := ⟨.hbm, 37, rfl⟩
abbrev main_cst_3 : Ref sig .tc := ⟨.hbm, 38, rfl⟩
abbrev main_v20 : Ref sig .tc := ⟨.hbm, 39, rfl⟩
abbrev main_v21 : Ref sig .tc := ⟨.hbm, 40, rfl⟩
abbrev main_cst_4 : Ref sig .tc := ⟨.hbm, 41, rfl⟩
abbrev main_v22 : Ref sig .tc := ⟨.hbm, 42, rfl⟩
abbrev main_v23 : Ref sig .tc := ⟨.hbm, 43, rfl⟩
abbrev main_v24 : Ref sig .tc := ⟨.hbm, 44, rfl⟩
abbrev main_v25 : Ref sig .tc := ⟨.hbm, 45, rfl⟩
abbrev main_c : Ref sig .tc := ⟨.hbm, 46, rfl⟩
abbrev main_v26 : Ref sig .tc := ⟨.hbm, 47, rfl⟩
abbrev main_v27 : Ref sig .tc := ⟨.hbm, 48, rfl⟩
abbrev main_c_5 : Ref sig .tc := ⟨.hbm, 49, rfl⟩
abbrev main_v28 : Ref sig .tc := ⟨.hbm, 50, rfl⟩
abbrev main_v29 : Ref sig .tc := ⟨.hbm, 51, rfl⟩
abbrev main_v30 : Ref sig .tc := ⟨.hbm, 52, rfl⟩
abbrev main_v31 : Ref sig .tc := ⟨.hbm, 53, rfl⟩
abbrev main_v32 : Ref sig .tc := ⟨.hbm, 54, rfl⟩
abbrev main_v33 : Ref sig .tc := ⟨.hbm, 55, rfl⟩
abbrev main_v34 : Ref sig .tc := ⟨.hbm, 56, rfl⟩
abbrev main_v35 : Ref sig .tc := ⟨.hbm, 57, rfl⟩
abbrev main_cst_6 : Ref sig .tc := ⟨.hbm, 58, rfl⟩
abbrev main_v36 : Ref sig .tc := ⟨.hbm, 59, rfl⟩
abbrev main_v37 : Ref sig .tc := ⟨.hbm, 60, rfl⟩
abbrev main_v38 : Ref sig .tc := ⟨.hbm, 61, rfl⟩
abbrev main_v39 : Ref sig .tc := ⟨.hbm, 62, rfl⟩
abbrev main_v40 : Ref sig .tc := ⟨.hbm, 63, rfl⟩
abbrev main_v41 : Ref sig .tc := ⟨.hbm, 64, rfl⟩
abbrev main_v42 : Ref sig .tc := ⟨.hbm, 65, rfl⟩
abbrev main_v43 : Ref sig .tc := ⟨.hbm, 66, rfl⟩
abbrev main_v44 : Ref sig .tc := ⟨.hbm, 67, rfl⟩
abbrev main_cst_7 : Ref sig .tc := ⟨.hbm, 68, rfl⟩
abbrev main_v45 : Ref sig .tc := ⟨.hbm, 69, rfl⟩
abbrev main_v46 : Ref sig .tc := ⟨.hbm, 70, rfl⟩
abbrev main_cst_8 : Ref sig .tc := ⟨.hbm, 71, rfl⟩
abbrev main_v47 : Ref sig .tc := ⟨.hbm, 72, rfl⟩
abbrev main_v48 : Ref sig .tc := ⟨.hbm, 73, rfl⟩
abbrev main_c_9 : Ref sig .tc := ⟨.hbm, 74, rfl⟩
abbrev main_call0_cst : Ref sig .tc := ⟨.hbm, 75, rfl⟩
abbrev main_call0_v0 : Ref sig .tc := ⟨.hbm, 76, rfl⟩
abbrev main_call0_v1 : Ref sig .tc := ⟨.hbm, 77, rfl⟩
abbrev main_call0_cst_0 : Ref sig .tc := ⟨.hbm, 78, rfl⟩
abbrev main_call0_v2 : Ref sig .tc := ⟨.hbm, 79, rfl⟩
abbrev main_call0_v3 : Ref sig .tc := ⟨.hbm, 80, rfl⟩
abbrev main_call0_v4 : Ref sig .tc := ⟨.hbm, 81, rfl⟩
abbrev main_call0_v5 : Ref sig .tc := ⟨.hbm, 82, rfl⟩
abbrev main_call0_v6 : Ref sig .tc := ⟨.hbm, 83, rfl⟩
abbrev main_call0_v7 : Ref sig .tc := ⟨.hbm, 84, rfl⟩
abbrev main_call0_cst_1 : Ref sig .tc := ⟨.hbm, 85, rfl⟩
abbrev main_call0_v8 : Ref sig .tc := ⟨.hbm, 86, rfl⟩
abbrev main_call0_cst_2 : Ref sig .tc := ⟨.hbm, 87, rfl⟩
abbrev main_call0_v9 : Ref sig .tc := ⟨.hbm, 88, rfl⟩
abbrev main_call0_v10 : Ref sig .tc := ⟨.hbm, 89, rfl⟩
abbrev main_call0_v11 : Ref sig .tc := ⟨.hbm, 90, rfl⟩
abbrev main_call0_v12 : Ref sig .tc := ⟨.hbm, 91, rfl⟩
abbrev main_call0_cst_3 : Ref sig .tc := ⟨.hbm, 92, rfl⟩
abbrev main_call0_v13 : Ref sig .tc := ⟨.hbm, 93, rfl⟩
abbrev main_call0_cst_4 : Ref sig .tc := ⟨.hbm, 94, rfl⟩
abbrev main_call0_call0_v0 : Ref sig .tc := ⟨.hbm, 95, rfl⟩
abbrev main_call0_call0_v1 : Ref sig .tc := ⟨.hbm, 96, rfl⟩
abbrev main_v49 : Ref sig .tc := ⟨.hbm, 97, rfl⟩
abbrev main_v50 : Ref sig .tc := ⟨.hbm, 98, rfl⟩
abbrev main_v51 : Ref sig .tc := ⟨.hbm, 99, rfl⟩
abbrev main_cst_10 : Ref sig .tc := ⟨.hbm, 100, rfl⟩
abbrev main_v52 : Ref sig .tc := ⟨.hbm, 101, rfl⟩
abbrev main_v53 : Ref sig .tc := ⟨.hbm, 102, rfl⟩
abbrev main_v54 : Ref sig .tc := ⟨.hbm, 103, rfl⟩
abbrev main_v55 : Ref sig .tc := ⟨.hbm, 104, rfl⟩
abbrev main_v56 : Ref sig .tc := ⟨.hbm, 105, rfl⟩
abbrev main_v57 : Ref sig .tc := ⟨.hbm, 106, rfl⟩
abbrev main_v58 : Ref sig .tc := ⟨.hbm, 107, rfl⟩
abbrev main_v59 : Ref sig .tc := ⟨.hbm, 108, rfl⟩
abbrev main_v60 : Ref sig .tc := ⟨.hbm, 109, rfl⟩
abbrev main_v61 : Ref sig .tc := ⟨.hbm, 110, rfl⟩
abbrev main_v62 : Ref sig .tc := ⟨.hbm, 111, rfl⟩
abbrev main_call1_cst : Ref sig .tc := ⟨.hbm, 112, rfl⟩
abbrev main_call1_v0 : Ref sig .tc := ⟨.hbm, 113, rfl⟩
abbrev main_v63 : Ref sig .tc := ⟨.hbm, 114, rfl⟩
abbrev main_v64 : Ref sig .tc := ⟨.hbm, 115, rfl⟩
abbrev main_v65 : Ref sig .tc := ⟨.hbm, 116, rfl⟩
abbrev main_v66 : Ref sig .tc := ⟨.hbm, 117, rfl⟩
abbrev main_v67 : Ref sig .tc := ⟨.hbm, 118, rfl⟩
abbrev main_v68 : Ref sig .tc := ⟨.hbm, 119, rfl⟩
abbrev main_cst_11 : Ref sig .tc := ⟨.hbm, 120, rfl⟩
abbrev main_v69 : Ref sig .tc := ⟨.hbm, 121, rfl⟩
abbrev main_v70 : Ref sig .tc := ⟨.hbm, 122, rfl⟩
abbrev main_cst_12 : Ref sig .tc := ⟨.hbm, 123, rfl⟩
abbrev main_v71 : Ref sig .tc := ⟨.hbm, 124, rfl⟩
abbrev main_v72 : Ref sig .tc := ⟨.hbm, 125, rfl⟩
abbrev main_c_13 : Ref sig .tc := ⟨.hbm, 126, rfl⟩
abbrev main_call2_cst : Ref sig .tc := ⟨.hbm, 127, rfl⟩
abbrev main_call2_v0 : Ref sig .tc := ⟨.hbm, 128, rfl⟩
abbrev main_call2_v1 : Ref sig .tc := ⟨.hbm, 129, rfl⟩
abbrev main_call2_cst_0 : Ref sig .tc := ⟨.hbm, 130, rfl⟩
abbrev main_call2_v2 : Ref sig .tc := ⟨.hbm, 131, rfl⟩
abbrev main_call2_v3 : Ref sig .tc := ⟨.hbm, 132, rfl⟩
abbrev main_call2_v4 : Ref sig .tc := ⟨.hbm, 133, rfl⟩
abbrev main_call2_v5 : Ref sig .tc := ⟨.hbm, 134, rfl⟩
abbrev main_call2_v6 : Ref sig .tc := ⟨.hbm, 135, rfl⟩
abbrev main_call2_v7 : Ref sig .tc := ⟨.hbm, 136, rfl⟩
abbrev main_call2_cst_1 : Ref sig .tc := ⟨.hbm, 137, rfl⟩
abbrev main_call2_v8 : Ref sig .tc := ⟨.hbm, 138, rfl⟩
abbrev main_call2_cst_2 : Ref sig .tc := ⟨.hbm, 139, rfl⟩
abbrev main_call2_v9 : Ref sig .tc := ⟨.hbm, 140, rfl⟩
abbrev main_call2_v10 : Ref sig .tc := ⟨.hbm, 141, rfl⟩
abbrev main_call2_v11 : Ref sig .tc := ⟨.hbm, 142, rfl⟩
abbrev main_call2_v12 : Ref sig .tc := ⟨.hbm, 143, rfl⟩
abbrev main_call2_cst_3 : Ref sig .tc := ⟨.hbm, 144, rfl⟩
abbrev main_call2_v13 : Ref sig .tc := ⟨.hbm, 145, rfl⟩
abbrev main_call2_cst_4 : Ref sig .tc := ⟨.hbm, 146, rfl⟩
abbrev main_call2_call0_v0 : Ref sig .tc := ⟨.hbm, 147, rfl⟩
abbrev main_call2_call0_v1 : Ref sig .tc := ⟨.hbm, 148, rfl⟩
abbrev main_v73 : Ref sig .tc := ⟨.hbm, 149, rfl⟩
abbrev main_v74 : Ref sig .tc := ⟨.hbm, 150, rfl⟩
abbrev main_v75 : Ref sig .tc := ⟨.hbm, 151, rfl⟩
abbrev main_cst_14 : Ref sig .tc := ⟨.hbm, 152, rfl⟩
abbrev main_v76 : Ref sig .tc := ⟨.hbm, 153, rfl⟩
abbrev main_v77 : Ref sig .tc := ⟨.hbm, 154, rfl⟩
abbrev main_v78 : Ref sig .tc := ⟨.hbm, 155, rfl⟩
abbrev main_v79 : Ref sig .tc := ⟨.hbm, 156, rfl⟩
abbrev main_v80 : Ref sig .tc := ⟨.hbm, 157, rfl⟩
abbrev main_v81 : Ref sig .tc := ⟨.hbm, 158, rfl⟩
abbrev main_v82 : Ref sig .tc := ⟨.hbm, 159, rfl⟩
abbrev main_v83 : Ref sig .tc := ⟨.hbm, 160, rfl⟩
abbrev main_v84 : Ref sig .tc := ⟨.hbm, 161, rfl⟩
abbrev main_v85 : Ref sig .tc := ⟨.hbm, 162, rfl⟩
abbrev main_v86 : Ref sig .tc := ⟨.hbm, 163, rfl⟩
abbrev main_call3_cst : Ref sig .tc := ⟨.hbm, 164, rfl⟩
abbrev main_call3_v0 : Ref sig .tc := ⟨.hbm, 165, rfl⟩
abbrev main_v87 : Ref sig .tc := ⟨.hbm, 166, rfl⟩

abbrev nD : Nat := 1
abbrev τ : Topo := Topo.v7x

variable {F : FTy → Type} [FloatOps F]
-- ==== Proof.Run.lean ====
/- The kernel's run with its result: the generated frame certificate, read once more with the result array among the
   buffers whose final contents are kept. -/
module

public import proofs.«01_k».proof.Proof.Gen.KernelIdeal.Frame

@[expose] public section

set_option maxRecDepth 16384

noncomputable section

namespace Cert.KernelIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option backward.isDefEq.respectTransparency.types false in
/-- Every run of the kernel terminates with the result array at the last boundary's contents `W5`, the arguments as
    launched, and every semaphore counter at zero. -/
theorem run_result : θ_run defs (onTc (τ := τ) (main (F := F))) ⟨m, fun _ => 0, ρ⟩ (fun r => (∀ c : Dev nD,
      r.2.mem ((c.tc : Thread nD τ).loc main_v68) = W5 m ρ c (Proc.devRef .tc main_v68)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11))
      ∧ r.2.sem = fun _ => 0) :=
  Pipeline.θ_run_regions_kit_sems (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W5 m ρ c b)
    (hfin := fun c s' => by
      iintro ⟨⟨Hh, -⟩, HSI⟩
      unfold StableHlo.held
      imodintro
      iapply (pointsTo_read_all (Pipeline.ucRefs τ sig) (fun b => (((c : Thread nD τ)).1, b)) (W5 m ρ c) s')
      isplitl [Hh] <;> iassumption)
    (hQ := fun s h hz => ⟨(fun c =>
      ⟨(h c _ (mem_uc main_v68 (by decide))),
       (h c _ (mem_uc main_arg0 (by decide))).trans (W5_main_arg0 m ρ c),
       (h c _ (mem_uc main_arg1 (by decide))).trans (W5_main_arg1 m ρ c),
       (h c _ (mem_uc main_arg2 (by decide))).trans (W5_main_arg2 m ρ c),
       (h c _ (mem_uc main_arg3 (by decide))).trans (W5_main_arg3 m ρ c),
       (h c _ (mem_uc main_arg4 (by decide))).trans (W5_main_arg4 m ρ c),
       (h c _ (mem_uc main_arg5 (by decide))).trans (W5_main_arg5 m ρ c),
       (h c _ (mem_uc main_arg6 (by decide))).trans (W5_main_arg6 m ρ c),
       (h c _ (mem_uc main_arg7 (by decide))).trans (W5_main_arg7 m ρ c),
       (h c _ (mem_uc main_arg8 (by decide))).trans (W5_main_arg8 m ρ c),
       (h c _ (mem_uc main_arg9 (by decide))).trans (W5_main_arg9 m ρ c),
       (h c _ (mem_uc main_arg10 (by decide))).trans (W5_main_arg10 m ρ c),
       (h c _ (mem_uc main_arg11 (by decide))).trans (W5_main_arg11 m ρ c)⟩), funext fun g => hz g (.inr (no_unscoped g.2))⟩)

end Cert.KernelIdeal.Gen

end
-- ==== Proof.Tail.lean ====
/- The third region's array: at every row, the rectified affine map of the second layer's output with the ones rows
   appended. -/
module

public import proofs.«01_k».proof.Proof.Gen.KernelIdeal.Frame
public import Idealize.ShloMosaic.Lib.Pipeline.Value
public import Idealize.ShloMosaic.Lib.Pipeline.ValueKit
public import Idealize.ShloMosaic.Lib.ValueIdx
public import Idealize.ShloMosaic.Lib.Pointwise

@[expose] public section

set_option maxRecDepth 16384

noncomputable section

namespace Cert.KernelIdeal.Values

open Idealize.ShloMosaic Idealize.ShloMosaic.TcCoe Idealize.ShloMosaic.Tactic
open Cert.KernelIdeal Cert.KernelIdeal.Gen

/-- The third region's block at an index: a matrix product over 136 rows, of which the last eight are ones. -/
theorem pay2_apply (x : Vec Ideal S1x128x512 .f32) (w : Vec Ideal S128x136 .f32) (j : S1x128x512.Idx) :
    k2_pay1 (F := Ideal) x w j
      = max (∑ k : Fin 136, w (ix2 (j 1) k) * (if h : k.val < 128 then x (ix3 0 ⟨k.val, h⟩ (j 2)) else 1)) 0 := by
  unfold k2_pay1
  pointwise

variable (V : (c : Dev nD) → (b : Ref sig .tc) → Buf (Elt Ideal) ((c : Thread nD τ).loc b))

/-- The third region's window positions at every point. -/
theorem idx2 : ∀ t : Fin cfg2.N, win2_0.index t = ![t.val / 16, 0, t.val % 16] ∧ win2_1.index t = ![0, 0]
    ∧ win2_2.index t = ![t.val / 16, 0, t.val % 16] :=
  (by decide +kernel : ∀ t : Fin grid2.N, _)

/-- The rectified affine map: 128 rows of `x` and eight rows of ones against the 136 columns of `w`. -/
def AFF (w : Vec Ideal S128x136 .f32) (x : Vec Ideal S4x128x8192 .f32) : Vec Ideal S4x128x8192 .f32 := fun j =>
  max (∑ k : Fin 136, w (ix2 (j 1) k) * (if h : k.val < 128 then x (ix3 (j 0) ⟨k.val, h⟩ (j 2)) else 1)) 0

/-- What the third region's result array holds. -/
theorem arr2 (c : Dev nD) : (dat2 V c).arrAt 2 cfg2.N
    = AFF (V c (Pipeline.arrRef spec2 1)) (V c (Pipeline.arrRef spec2 0)) := by
  refine (dat2 V c).arrAt_eq_of_covers 2 _ (by decide +kernel) fun t hf y => ?_
  blk_simp
  rw [after2_2]
  frame_out
  rw [pay2_apply]
  unfold AFF
  blk_point [iblk2, idx2 t]

end Cert.KernelIdeal.Values

end
-- ==== Proof.Layer.lean ====
/- The second region's arrays: the rectified affine map of the first layer's input, and the products of its rows (with the
   ones rows appended) added up over the whole array. -/
module

public import proofs.«01_k».proof.Proof.Tail

@[expose] public section

set_option maxRecDepth 16384

noncomputable section

namespace Cert.KernelIdeal.Values

open Idealize.ShloMosaic Idealize.ShloMosaic.TcCoe Idealize.ShloMosaic.Tactic
open Cert.KernelIdeal Cert.KernelIdeal.Gen

/-- A column of 128 values with eight ones below. -/
def aug (x : Fin 128 → EReal) (k : Fin 136) : EReal := if h : k.val < 128 then x ⟨k.val, h⟩ else 1

/-- One tile's share of the product of rows `j 0` and `j 1` of an array with the ones rows appended. -/
def gterm (x : Vec Ideal S4x128x8192 .f32) (t : ℕ) (j : S136x136.Idx) : EReal :=
  ∑ i : Fin 512, aug (fun k => x (ix3 ⟨t / 16 % 4, by omega⟩ k ⟨t % 16 * 512 + i.val, by omega⟩)) (j 0)
    * aug (fun k => x (ix3 ⟨t / 16 % 4, by omega⟩ k ⟨t % 16 * 512 + i.val, by omega⟩)) (j 1)

/-- The products of rows added up over the whole array, tile by tile. -/
def GRAM (x : Vec Ideal S4x128x8192 .f32) : Vec Ideal S136x136 .f32 := fun j => ∑ t ∈ Finset.range 64, gterm x t j

/-- The second region's rows at an index. -/
theorem pay1y_apply (x : Vec Ideal S1x128x512 .f32) (w : Vec Ideal S128x136 .f32) (j : S128x512.Idx) :
    k1_pay2 (F := Ideal) x w j
      = max (∑ k : Fin 136, w (ix2 (j 0) k) * (if h : k.val < 128 then x (ix3 0 ⟨k.val, h⟩ (j 1)) else 1)) 0 := by
  unfold k1_pay2 k1_pay1
  pointwise

/-- The second region's stored block at an index. -/
theorem pay1b_apply (x : Vec Ideal S1x128x512 .f32) (w : Vec Ideal S128x136 .f32) (j : S1x128x512.Idx) :
    k1_pay3 (F := Ideal) x w j
      = max (∑ k : Fin 136, w (ix2 (j 1) k) * (if h : k.val < 128 then x (ix3 0 ⟨k.val, h⟩ (j 2)) else 1)) 0 := by
  unfold k1_pay3 k1_pay2 k1_pay1
  pointwise

/-- The second region's zero block. -/
theorem pay1z_apply (j : S136x136.Idx) : k1_pay4 (F := Ideal) j = 0 := by
  unfold k1_pay4
  pointwise

/-- The second region's accumulation step at an index. -/
theorem pay1g_apply (x : Vec Ideal S1x128x512 .f32) (w : Vec Ideal S128x136 .f32) (g : Vec Ideal S136x136 .f32) (j : S136x136.Idx) :
    k1_pay5 (F := Ideal) x w g j
      = g j + ∑ i : Fin 512, aug (fun k => k1_pay2 (F := Ideal) x w (ix2 k i)) (j 0)
          * aug (fun k => k1_pay2 (F := Ideal) x w (ix2 k i)) (j 1) := by
  unfold k1_pay5 k1_pay1 aug
  pointwise

variable (V : (c : Dev nD) → (b : Ref sig .tc) → Buf (Elt Ideal) ((c : Thread nD τ).loc b))

/-- The second region's window positions at every point. -/
theorem idx1 : ∀ t : Fin cfg1.N, win1_0.index t = ![t.val / 16, 0, t.val % 16] ∧ win1_1.index t = ![0, 0]
    ∧ win1_2.index t = ![t.val / 16, 0, t.val % 16] ∧ win1_3.index t = ![0, 0] :=
  (by decide +kernel : ∀ t : Fin grid1.N, _)

/-- The block the second region leaves in its first output at any point. -/
theorem outs1_fst (c : Dev nD) (t : Fin cfg1.N) :
    (outsAt1 V c t.val t.isLt).1 = k1_pay3 (F := Ideal) (iblk1 V c 0 t) (iblk1 V c 1 t) := by
  by_cases h0 : t.val % 64 = 0
  · rw [outsAt1_A V c t h0]
    frame_out
  · rw [outsAt1_B V c t h0]
    frame_out

/-- What the second region's first output array holds. -/
theorem arr1_2 (c : Dev nD) : (dat1 V c).arrAt 2 cfg1.N
    = AFF (V c (Pipeline.arrRef spec1 1)) (V c (Pipeline.arrRef spec1 0)) := by
  refine (dat1 V c).arrAt_eq_of_covers 2 _ (by decide +kernel) fun t hf y => ?_
  blk_simp
  rw [after1_2, outs1_fst, pay1b_apply]
  unfold AFF
  blk_point [iblk1, idx1 t]

/-- The rows at a point are the rows of the whole affine map at that tile. -/
theorem rows1 (c : Dev nD) (t : Fin cfg1.N) (k : Fin 128) (i : Fin 512) :
    k1_pay2 (F := Ideal) (iblk1 V c 0 t) (iblk1 V c 1 t) (ix2 k i)
      = AFF (V c (Pipeline.arrRef spec1 1)) (V c (Pipeline.arrRef spec1 0))
          (ix3 ⟨t.val / 16 % 4, by omega⟩ k ⟨t.val % 16 * 512 + i.val, by omega⟩) := by
  have ht : t.val < 64 := t.isLt
  have h4 : t.val / 16 % 4 = t.val / 16 := by omega
  rw [pay1y_apply]
  unfold AFF
  blk_point [iblk1, idx1 t, h4]

/-- What the second region's accumulator holds after a point. -/
theorem outs1_snd (c : Dev nD) (t : Fin cfg1.N) (ht : t.val % 64 = 63) (j : S136x136.Idx) :
    (outsAt1 V c t.val t.isLt).2 j
      = GRAM (AFF (V c (Pipeline.arrRef spec1 1)) (V c (Pipeline.arrRef spec1 0))) j := by
  rw [Pipeline.eq_sum_of_reset_step_apply_of_mod (f := fun n h => (outsAt1 V c n h).2) 64 (fun _ => 0)
    (gterm (AFF (V c (Pipeline.arrRef spec1 1)) (V c (Pipeline.arrRef spec1 0))))
    (fun t h j => by
      rw [outsAt1_A V c t h]; frame_out
      rw [pay1g_apply, pay1z_apply]
      simp only [rows1]; rfl)
    (fun t h j => by
      rw [outsAt1_B V c t h]; frame_out
      rw [pay1g_apply]
      simp only [rows1]; rfl) t ht j]
  have h0 : t.val / 64 = 0 := by have : t.val < 64 := t.isLt; omega
  simp only [h0, Nat.mul_zero, Nat.zero_add, zero_add]
  rfl

/-- What the second region's accumulator array holds. -/
theorem arr1_3 (c : Dev nD) : (dat1 V c).arrAt 3 cfg1.N
    = GRAM (AFF (V c (Pipeline.arrRef spec1 1)) (V c (Pipeline.arrRef spec1 0))) := by
  refine (dat1 V c).arrAt_eq_of_covers 3 _ (by decide +kernel) fun t hf y => ?_
  blk_simp
  rw [after1_3, outs1_snd V c t ((flush1_3 t).mp hf)]
  blk_ext [idx1 t]

end Cert.KernelIdeal.Values

end
-- ==== Proof.Knn.lean ====
/- The first region's blocks at a point: the printed payloads put together. -/
module

public import proofs.«01_k».proof.Proof.Layer

@[expose] public section

set_option maxRecDepth 16384

noncomputable section

namespace Cert.KernelIdeal.Values

open Idealize.ShloMosaic Idealize.ShloMosaic.TcCoe Idealize.ShloMosaic.Tactic
open Cert.KernelIdeal Cert.KernelIdeal.Gen

variable (x1 : Vec Ideal S1x3x512 .f32) (x2 : Vec Ideal S1x3x2048 .f32)

/-- Distances of one tile. -/
def nDist : FVec Ideal S2048x512 .f32 := k0_pay3 (F := Ideal) x1 x2
/-- Smallest values after fifteen chunks. -/
def nA15 : FVec Ideal S128x512 .f32 := k0_pay65 (nDist x1 x2) (k0_pay23 (F := Ideal) x1 x2)
/-- Second values after fifteen chunks. -/
def nB15 : FVec Ideal S128x512 .f32 := k0_pay67 (nDist x1 x2) (k0_pay23 (F := Ideal) x1 x2) (k0_pay25 (F := Ideal) x1 x2)
/-- Third values after fourteen chunks. -/
def nC14 : FVec Ideal S128x512 .f32 :=
  k0_pay63 (nDist x1 x2) (k0_pay21 (F := Ideal) x1 x2) (k0_pay23 (F := Ideal) x1 x2) (k0_pay25 (F := Ideal) x1 x2) (k0_pay26 (F := Ideal) x1 x2)
/-- The value the third one is compared with at the fifteenth chunk. -/
def nU15 : FVec Ideal S128x512 .f32 := k0_pay68 (nDist x1 x2) (k0_pay23 (F := Ideal) x1 x2) (k0_pay25 (F := Ideal) x1 x2)
/-- Lower and upper halves of sixteen rows: second values, third values, the smaller and the larger of the first values. -/
def n160 : FVec Ideal S8x512 .f32 := k0_pay99 (nDist x1 x2) (nA15 x1 x2) (nB15 x1 x2)
@[inherit_doc n160] def n161 : FVec Ideal S8x512 .f32 := k0_pay100 (nDist x1 x2) (nC14 x1 x2) (nA15 x1 x2) (nB15 x1 x2) (nU15 x1 x2)
@[inherit_doc n160] def n163 : FVec Ideal S8x512 .f32 := k0_pay102 (nDist x1 x2) (nA15 x1 x2) (nB15 x1 x2)
@[inherit_doc n160] def n164 : FVec Ideal S8x512 .f32 := k0_pay103 (nDist x1 x2) (nC14 x1 x2) (nA15 x1 x2) (nB15 x1 x2) (nU15 x1 x2)
@[inherit_doc n160] def n165 : FVec Ideal S8x512 .f32 := k0_pay104 (nDist x1 x2) (nA15 x1 x2)
@[inherit_doc n160] def n166 : FVec Ideal S8x512 .f32 := k0_pay105 (nDist x1 x2) (nA15 x1 x2)
/-- The second smallest distance of every column. -/
def nM2 : FVec Ideal S1x512 .f32 := k0_pay130 (n160 x1 x2) (n163 x1 x2) (n165 x1 x2) (n166 x1 x2)
/-- The third smallest distance of every column. -/
def nM3 : FVec Ideal S1x512 .f32 :=
  k0_pay131 (n160 x1 x2) (n161 x1 x2) (n163 x1 x2) (n164 x1 x2) (n165 x1 x2) (n166 x1 x2)
/-- The weight of the nearest neighbour of every column. -/
def nR1 : FVec Ideal S1x512 .f32 := k0_pay132 (n165 x1 x2)

variable (p1 : Vec Ideal S1x64x512 .f32) (p2 : Vec Ideal S1x64x2048 .f32)

/-- The tile's features: the first points' and the interpolated ones. -/
def nX : FVec Ideal S128x512 .f32 :=
  k0_pay134 (nDist x1 x2) (nM2 x1 x2) (nM3 x1 x2) (nR1 x1 x2) (k0_pay133 (F := Ideal)) p2 p1

variable (V : (c : Dev nD) → (b : Ref sig .tc) → Buf (Elt Ideal) ((c : Thread nD τ).loc b))

/-- The block the first region leaves in its first output at any point. -/
theorem outs0_fst (c : Dev nD) (t : Fin cfg0.N) :
    (outsAt0 V c t.val t.isLt).1 = shapeCast S1x128x512 (nX (iblk0 V c 0 t) (iblk0 V c 1 t) (iblk0 V c 2 t) (iblk0 V c 3 t))
      shapeCasts_S128x512_S1x128x512 := by
  by_cases h0 : t.val % 64 = 0
  · rw [outsAt0_A V c t h0]
    frame_out
    rfl
  · rw [outsAt0_B V c t h0]
    frame_out
    rfl

/-- The tile's product of rows. -/
def nG : FVec Ideal S136x136 .f32 :=
  k0_pay136 (nDist x1 x2) (nM2 x1 x2) (nM3 x1 x2) (nR1 x1 x2) (k0_pay133 (F := Ideal)) p2 p1

/-- The first region's accumulator at the first point. -/
theorem outs0_snd_A (c : Dev nD) (t : Fin cfg0.N) (h0 : t.val % 64 = 0) :
    (outsAt0 V c t.val t.isLt).2 = k0_pay2 (nG (iblk0 V c 0 t) (iblk0 V c 1 t) (iblk0 V c 2 t) (iblk0 V c 3 t)) (k0_pay1 (F := Ideal)) := by
  rw [outsAt0_A V c t h0]
  frame_out
  rfl

/-- The first region's accumulator at a later point. -/
theorem outs0_snd_B (c : Dev nD) (t : Fin cfg0.N) (h0 : ¬t.val % 64 = 0) :
    (outsAt0 V c t.val t.isLt).2 = k0_pay2 (nG (iblk0 V c 0 t) (iblk0 V c 1 t) (iblk0 V c 2 t) (iblk0 V c 3 t))
      (outsAt0 V c (t.val - 1) (Nat.lt_of_le_of_lt (Nat.sub_le _ _) t.isLt)).2 := by
  rw [outsAt0_B V c t h0]
  frame_out
  rfl

end Cert.KernelIdeal.Values

end
-- ==== Proof.Top3.lean ====
/- The three smallest of a family of values: the inserting and merging steps, and what they keep. -/
module

public import Idealize.ShloMosaic.Lib.ValueIdx
public import Idealize.ShloMosaic.Lib.Pointwise

@[expose] public section

noncomputable section

namespace Top3

/-- `a`, `b`, `c` are the first three values of a family of which `N t` members lie below `t`. -/
def Is (a b c : EReal) (N : EReal → ℕ) : Prop :=
  ∀ t, (a < t ↔ 1 ≤ N t) ∧ (b < t ↔ 2 ≤ N t) ∧ (c < t ↔ 3 ≤ N t)

/-- Of the empty family. -/
theorem Is.empty : Is ⊤ ⊤ ⊤ (fun _ => 0) := by
  intro t; simp

/-- One more value inserted. -/
theorem Is.step {a b c : EReal} {N : EReal → ℕ} (h : Is a b c N) (x : EReal) :
    Is (min a x) (min b (max a x)) (min c (max b (max a x))) (fun t => N t + if x < t then 1 else 0) := by
  intro t
  obtain ⟨h1, h2, h3⟩ := h t
  simp only [min_lt_iff, max_lt_iff, h1, h2, h3]
  by_cases hx : x < t <;> simp [hx] <;> omega

/-- Two families put together. -/
theorem Is.merge {a b c a' b' c' : EReal} {N N' : EReal → ℕ} (h : Is a b c N) (h' : Is a' b' c' N') :
    Is (min a a') (min (max a a') (min b b'))
      (min (min (max (max a a') (min b b')) (max b b')) (min c c')) (fun t => N t + N' t) := by
  intro t
  obtain ⟨h1, h2, h3⟩ := h t
  obtain ⟨h1', h2', h3'⟩ := h' t
  simp only [min_lt_iff, max_lt_iff, h1, h2, h3, h1', h2', h3']
  omega

/-- The three values are determined by the counts. -/
theorem Is.unique {a b c a' b' c' : EReal} {N : EReal → ℕ} (h : Is a b c N) (h' : Is a' b' c' N) :
    a = a' ∧ b = b' ∧ c = c' := by
  have key : ∀ x y : EReal, (∀ t, x < t ↔ y < t) → x = y := fun x y hxy =>
    le_antisymm (le_of_forall_gt fun t ht => (hxy t).2 ht) (le_of_forall_gt fun t ht => (hxy t).1 ht)
  exact ⟨key _ _ fun t => (h t).1.trans (h' t).1.symm, key _ _ fun t => (h t).2.1.trans (h' t).2.1.symm,
    key _ _ fun t => (h t).2.2.trans (h' t).2.2.symm⟩

/-- The number of members of a family below `t`. -/
def count {n : ℕ} (f : Fin n → EReal) (t : EReal) : ℕ := ∑ s, if f s < t then 1 else 0

/-- Inserting a list of values one after the other. -/
def ins (p : EReal × EReal × EReal) (x : EReal) : EReal × EReal × EReal :=
  (min p.1 x, min p.2.1 (max p.1 x), min p.2.2 (max p.2.1 (max p.1 x)))

/-- The three smallest of a finite family. -/
def least {n : ℕ} (f : Fin n → EReal) : EReal × EReal × EReal := (List.ofFn f).foldl ins (⊤, ⊤, ⊤)

theorem foldl_is (l : List EReal) (p : EReal × EReal × EReal) (N : EReal → ℕ) (h : Is p.1 p.2.1 p.2.2 N) :
    Is (l.foldl ins p).1 (l.foldl ins p).2.1 (l.foldl ins p).2.2
      (fun t => N t + (l.map fun x => if x < t then 1 else 0).sum) := by
  induction l generalizing p N with
  | nil => simpa using h
  | cons x l ih =>
    have := ih (ins p x) _ (h.step x)
    simp only [List.foldl_cons, List.map_cons, List.sum_cons]
    simpa only [add_assoc] using this

/-- The three smallest have the family's counts. -/
theorem least_is {n : ℕ} (f : Fin n → EReal) : Is (least f).1 (least f).2.1 (least f).2.2 (count f) := by
  have := foldl_is (List.ofFn f) (⊤, ⊤, ⊤) _ Is.empty
  have h2 : count f = fun t => 0 + ((List.ofFn f).map fun x => if x < t then 1 else 0).sum := by
    funext t
    rw [List.map_ofFn, List.sum_ofFn, zero_add]
    rfl
  rw [h2]
  exact this

/-- Anything with the family's counts is the three smallest. -/
theorem eq_least {n : ℕ} {f : Fin n → EReal} {a b c : EReal} (h : Is a b c (count f)) :
    a = (least f).1 ∧ b = (least f).2.1 ∧ c = (least f).2.2 := h.unique (least_is f)

end Top3

end
-- ==== Proof.Consts.lean ====
/- The printed constants as extended reals. -/
module

public import Idealize.ShloMosaic.Lib.IdealHost
public import Idealize.ShloMosaic.Lib.ValueIdx
public import Idealize.ShloMosaic.Lib.Pointwise

@[expose] public section

noncomputable section

namespace Cert.Consts

open Idealize.ShloMosaic

/-- The pattern of infinity. -/
theorem top_f32 : Ideal.ofBits .f32 0x7F800000#32 = (⊤ : EReal) := by
  show Ideal.ieee 8 23 0x7F800000#32 = ⊤
  unfold Ideal.ieee
  simp

/-- The pattern of two. -/
theorem two_f32 : Ideal.ofBits .f32 0x40000000#32 = ((2 : ℝ) : EReal) := by
  show Ideal.ieee 8 23 0x40000000#32 = _
  unfold Ideal.ieee
  simp
  norm_cast
  norm_num

/-- The pattern of the number of points of all the batches. -/
theorem points_f32 : Ideal.ofBits .f32 0x47000000#32 = ((32768 : ℝ) : EReal) := by
  show Ideal.ieee 8 23 0x47000000#32 = _
  unfold Ideal.ieee
  simp
  norm_cast
  norm_num [zpow_neg]

/-- The small number added to a distance is a positive real. -/
theorem eps8_f32 : ∃ e : ℝ, 0 < e ∧ Ideal.ofBits .f32 0x322BCC77#32 = (e : EReal) := by
  show ∃ e : ℝ, 0 < e ∧ Ideal.ieee 8 23 0x322BCC77#32 = (e : EReal)
  unfold Ideal.ieee
  refine ⟨_, ?_, by simp; norm_cast⟩
  positivity

/-- The small number added to a variance is a positive real. -/
theorem eps5_f32 : ∃ e : ℝ, 0 < e ∧ Ideal.ofBits .f32 0x3727C5AC#32 = (e : EReal) := by
  show ∃ e : ℝ, 0 < e ∧ Ideal.ieee 8 23 0x3727C5AC#32 = (e : EReal)
  unfold Ideal.ieee
  refine ⟨_, ?_, by simp; norm_cast⟩
  positivity

end Cert.Consts

end
-- ==== Proof.Network.lean ====
/- The first region's search network: its three results are the three smallest distances of every column. -/
module

public import proofs.«01_k».proof.Proof.Knn
public import proofs.«01_k».proof.Proof.Top3
public import proofs.«01_k».proof.Proof.Consts

@[expose] public section

set_option maxRecDepth 16384

noncomputable section

namespace Cert.KernelIdeal.Values

open Idealize.ShloMosaic Idealize.ShloMosaic.TcCoe Idealize.ShloMosaic.Tactic
open Cert.KernelIdeal Cert.KernelIdeal.Gen

/-- How many of the first `K` chunks' distances of column `n` at row `r` modulo `R` lie below `t`. -/
def cnt (D : FVec Ideal S2048x512 .f32) (K R r : ℕ) (n : Fin 512) (t : EReal) : ℕ :=
  ∑ s : Fin 2048, if s.val % R = r ∧ s.val < K * 128 ∧ D (ix2 s n) < t then 1 else 0

/-- The network's state after `K` chunks. -/
def Chunks (D : FVec Ideal S2048x512 .f32) (K : ℕ) (a b c : FVec Ideal S128x512 .f32) : Prop :=
  ∀ (r : Fin 128) (n : Fin 512), Top3.Is (a (ix2 r n)) (b (ix2 r n)) (c (ix2 r n)) (cnt D K 128 r.val n)

/-- Before the first chunk. -/
theorem Chunks.init (D : FVec Ideal S2048x512 .f32) : Chunks D 0 (k0_pay4 (F := Ideal)) (k0_pay4 (F := Ideal)) (k0_pay4 (F := Ideal)) := by
  intro r n
  have h : ∀ j, k0_pay4 (F := Ideal) j = (⊤ : EReal) := by
    intro j
    unfold k0_pay4
    pointwise
    exact Cert.Consts.top_f32
  rw [h]
  have : cnt D 0 128 r.val n = fun _ => 0 := by
    funext t; simp [cnt]
  rw [this]
  exact Top3.Is.empty

/-- One more chunk. -/
theorem Chunks.step {D : FVec Ideal S2048x512 .f32} {K : ℕ} {a b c : FVec Ideal S128x512 .f32} (h : Chunks D K a b c)
    (hK : K < 16) (x : FVec Ideal S128x512 .f32)
    (hx : ∀ (r : Fin 128) (n : Fin 512), x (ix2 r n) = D (ix2 ⟨K * 128 + r.val, by omega⟩ n)) :
    Chunks D (K + 1) (minimumf a x) (minimumf b (maximumf a x)) (minimumf c (maximumf b (maximumf a x))) := by
  intro r n
  have h1 := (h r n).step (x (ix2 r n))
  have h2 : (fun t => cnt D K 128 r.val n t + if x (ix2 r n) < t then 1 else 0) = cnt D (K + 1) 128 r.val n := by
    funext t
    have h3 : (if x (ix2 r n) < t then 1 else 0)
        = ∑ s : Fin 2048, if s = ⟨K * 128 + r.val, by omega⟩ then (if D (ix2 s n) < t then 1 else 0) else 0 := by
      rw [Finset.sum_ite_eq' Finset.univ, if_pos (Finset.mem_univ _), hx]
    unfold cnt
    rw [h3, ← Finset.sum_add_distrib]
    refine Finset.sum_congr rfl fun s _ => ?_
    have hs : s = ⟨K * 128 + r.val, by omega⟩ ↔ s.val = K * 128 + r.val := by rw [Fin.ext_iff]
    have hr := r.isLt
    by_cases hd : D (ix2 s n) < t <;> simp only [hs, hd, and_true, and_false, if_false] <;> split_ifs <;> omega
  rw [h2] at h1
  exact h1

/-- The network's state at 128 rows. -/
def Rows128 (D : FVec Ideal S2048x512 .f32) (a b c : FVec Ideal S128x512 .f32) : Prop :=
  ∀ (r : Fin 128) (n : Fin 512), Top3.Is (a (ix2 r n)) (b (ix2 r n)) (c (ix2 r n)) (cnt D 16 128 r.val n)

/-- The network's state at 64 rows. -/
def Rows64 (D : FVec Ideal S2048x512 .f32) (a b c : FVec Ideal S64x512 .f32) : Prop :=
  ∀ (r : Fin 64) (n : Fin 512), Top3.Is (a (ix2 r n)) (b (ix2 r n)) (c (ix2 r n)) (cnt D 16 64 r.val n)

/-- Halving to 64 rows. -/
theorem Rows64.of {D : FVec Ideal S2048x512 .f32} {a b c : FVec Ideal S128x512 .f32} (h : Rows128 D a b c) :
    Rows64 D (minimumf (extractStridedSlice S64x512 ![0, 0] a slices_S128x512_o0_0_S64x512) (extractStridedSlice S64x512 ![64, 0] a slices_S128x512_o64_0_S64x512))
      (minimumf (maximumf (extractStridedSlice S64x512 ![0, 0] a slices_S128x512_o0_0_S64x512) (extractStridedSlice S64x512 ![64, 0] a slices_S128x512_o64_0_S64x512)) (minimumf (extractStridedSlice S64x512 ![0, 0] b slices_S128x512_o0_0_S64x512) (extractStridedSlice S64x512 ![64, 0] b slices_S128x512_o64_0_S64x512)))
      (minimumf (minimumf (maximumf (maximumf (extractStridedSlice S64x512 ![0, 0] a slices_S128x512_o0_0_S64x512) (extractStridedSlice S64x512 ![64, 0] a slices_S128x512_o64_0_S64x512)) (minimumf (extractStridedSlice S64x512 ![0, 0] b slices_S128x512_o0_0_S64x512) (extractStridedSlice S64x512 ![64, 0] b slices_S128x512_o64_0_S64x512))) (maximumf (extractStridedSlice S64x512 ![0, 0] b slices_S128x512_o0_0_S64x512) (extractStridedSlice S64x512 ![64, 0] b slices_S128x512_o64_0_S64x512))) (minimumf (extractStridedSlice S64x512 ![0, 0] c slices_S128x512_o0_0_S64x512) (extractStridedSlice S64x512 ![64, 0] c slices_S128x512_o64_0_S64x512))) := by
  intro r n
  have h1 := (h ⟨r.val, by omega⟩ n).merge (h ⟨64 + r.val, by omega⟩ n)
  have h2 : (fun t => cnt D 16 128 r.val n t + cnt D 16 128 (64 + r.val) n t) = cnt D 16 64 r.val n := by
    funext t
    unfold cnt
    rw [← Finset.sum_add_distrib]
    refine Finset.sum_congr rfl fun s _ => ?_
    have hr := r.isLt
    by_cases hd : D (ix2 s n) < t <;> simp only [hd, and_true, and_false, if_false] <;> split_ifs <;> omega
  rw [h2] at h1
  have hlo : ∀ f : FVec Ideal S128x512 .f32, (extractStridedSlice S64x512 ![0, 0] f slices_S128x512_o0_0_S64x512) (ix2 r n) = f (ix2 ⟨r.val, by omega⟩ n) := by
    intro f; pointwise
  have hhi : ∀ f : FVec Ideal S128x512 .f32, (extractStridedSlice S64x512 ![64, 0] f slices_S128x512_o64_0_S64x512) (ix2 r n) = f (ix2 ⟨64 + r.val, by omega⟩ n) := by
    intro f; pointwise
  simp only [minimumf_apply, maximumf_apply, hlo, hhi]
  exact h1

/-- The network's state at 32 rows. -/
def Rows32 (D : FVec Ideal S2048x512 .f32) (a b c : FVec Ideal S32x512 .f32) : Prop :=
  ∀ (r : Fin 32) (n : Fin 512), Top3.Is (a (ix2 r n)) (b (ix2 r n)) (c (ix2 r n)) (cnt D 16 32 r.val n)

/-- Halving to 32 rows. -/
theorem Rows32.of {D : FVec Ideal S2048x512 .f32} {a b c : FVec Ideal S64x512 .f32} (h : Rows64 D a b c) :
    Rows32 D (minimumf (extractStridedSlice S32x512 ![0, 0] a slices_S64x512_o0_0_S32x512) (extractStridedSlice S32x512 ![32, 0] a slices_S64x512_o32_0_S32x512))
      (minimumf (maximumf (extractStridedSlice S32x512 ![0, 0] a slices_S64x512_o0_0_S32x512) (extractStridedSlice S32x512 ![32, 0] a slices_S64x512_o32_0_S32x512)) (minimumf (extractStridedSlice S32x512 ![0, 0] b slices_S64x512_o0_0_S32x512) (extractStridedSlice S32x512 ![32, 0] b slices_S64x512_o32_0_S32x512)))
      (minimumf (minimumf (maximumf (maximumf (extractStridedSlice S32x512 ![0, 0] a slices_S64x512_o0_0_S32x512) (extractStridedSlice S32x512 ![32, 0] a slices_S64x512_o32_0_S32x512)) (minimumf (extractStridedSlice S32x512 ![0, 0] b slices_S64x512_o0_0_S32x512) (extractStridedSlice S32x512 ![32, 0] b slices_S64x512_o32_0_S32x512))) (maximumf (extractStridedSlice S32x512 ![0, 0] b slices_S64x512_o0_0_S32x512) (extractStridedSlice S32x512 ![32, 0] b slices_S64x512_o32_0_S32x512))) (minimumf (extractStridedSlice S32x512 ![0, 0] c slices_S64x512_o0_0_S32x512) (extractStridedSlice S32x512 ![32, 0] c slices_S64x512_o32_0_S32x512))) := by
  intro r n
  have h1 := (h ⟨r.val, by omega⟩ n).merge (h ⟨32 + r.val, by omega⟩ n)
  have h2 : (fun t => cnt D 16 64 r.val n t + cnt D 16 64 (32 + r.val) n t) = cnt D 16 32 r.val n := by
    funext t
    unfold cnt
    rw [← Finset.sum_add_distrib]
    refine Finset.sum_congr rfl fun s _ => ?_
    have hr := r.isLt
    by_cases hd : D (ix2 s n) < t <;> simp only [hd, and_true, and_false, if_false] <;> split_ifs <;> omega
  rw [h2] at h1
  have hlo : ∀ f : FVec Ideal S64x512 .f32, (extractStridedSlice S32x512 ![0, 0] f slices_S64x512_o0_0_S32x512) (ix2 r n) = f (ix2 ⟨r.val, by omega⟩ n) := by
    intro f; pointwise
  have hhi : ∀ f : FVec Ideal S64x512 .f32, (extractStridedSlice S32x512 ![32, 0] f slices_S64x512_o32_0_S32x512) (ix2 r n) = f (ix2 ⟨32 + r.val, by omega⟩ n) := by
    intro f; pointwise
  simp only [minimumf_apply, maximumf_apply, hlo, hhi]
  exact h1

/-- The network's state at 16 rows. -/
def Rows16 (D : FVec Ideal S2048x512 .f32) (a b c : FVec Ideal S16x512 .f32) : Prop :=
  ∀ (r : Fin 16) (n : Fin 512), Top3.Is (a (ix2 r n)) (b (ix2 r n)) (c (ix2 r n)) (cnt D 16 16 r.val n)

/-- Halving to 16 rows. -/
theorem Rows16.of {D : FVec Ideal S2048x512 .f32} {a b c : FVec Ideal S32x512 .f32} (h : Rows32 D a b c) :
    Rows16 D (minimumf (extractStridedSlice S16x512 ![0, 0] a slices_S32x512_o0_0_S16x512) (extractStridedSlice S16x512 ![16, 0] a slices_S32x512_o16_0_S16x512))
      (minimumf (maximumf (extractStridedSlice S16x512 ![0, 0] a slices_S32x512_o0_0_S16x512) (extractStridedSlice S16x512 ![16, 0] a slices_S32x512_o16_0_S16x512)) (minimumf (extractStridedSlice S16x512 ![0, 0] b slices_S32x512_o0_0_S16x512) (extractStridedSlice S16x512 ![16, 0] b slices_S32x512_o16_0_S16x512)))
      (minimumf (minimumf (maximumf (maximumf (extractStridedSlice S16x512 ![0, 0] a slices_S32x512_o0_0_S16x512) (extractStridedSlice S16x512 ![16, 0] a slices_S32x512_o16_0_S16x512)) (minimumf (extractStridedSlice S16x512 ![0, 0] b slices_S32x512_o0_0_S16x512) (extractStridedSlice S16x512 ![16, 0] b slices_S32x512_o16_0_S16x512))) (maximumf (extractStridedSlice S16x512 ![0, 0] b slices_S32x512_o0_0_S16x512) (extractStridedSlice S16x512 ![16, 0] b slices_S32x512_o16_0_S16x512))) (minimumf (extractStridedSlice S16x512 ![0, 0] c slices_S32x512_o0_0_S16x512) (extractStridedSlice S16x512 ![16, 0] c slices_S32x512_o16_0_S16x512))) := by
  intro r n
  have h1 := (h ⟨r.val, by omega⟩ n).merge (h ⟨16 + r.val, by omega⟩ n)
  have h2 : (fun t => cnt D 16 32 r.val n t + cnt D 16 32 (16 + r.val) n t) = cnt D 16 16 r.val n := by
    funext t
    unfold cnt
    rw [← Finset.sum_add_distrib]
    refine Finset.sum_congr rfl fun s _ => ?_
    have hr := r.isLt
    by_cases hd : D (ix2 s n) < t <;> simp only [hd, and_true, and_false, if_false] <;> split_ifs <;> omega
  rw [h2] at h1
  have hlo : ∀ f : FVec Ideal S32x512 .f32, (extractStridedSlice S16x512 ![0, 0] f slices_S32x512_o0_0_S16x512) (ix2 r n) = f (ix2 ⟨r.val, by omega⟩ n) := by
    intro f; pointwise
  have hhi : ∀ f : FVec Ideal S32x512 .f32, (extractStridedSlice S16x512 ![16, 0] f slices_S32x512_o16_0_S16x512) (ix2 r n) = f (ix2 ⟨16 + r.val, by omega⟩ n) := by
    intro f; pointwise
  simp only [minimumf_apply, maximumf_apply, hlo, hhi]
  exact h1

/-- The network's state at 8 rows. -/
def Rows8 (D : FVec Ideal S2048x512 .f32) (a b c : FVec Ideal S8x512 .f32) : Prop :=
  ∀ (r : Fin 8) (n : Fin 512), Top3.Is (a (ix2 r n)) (b (ix2 r n)) (c (ix2 r n)) (cnt D 16 8 r.val n)

/-- Halving to 8 rows. -/
theorem Rows8.of {D : FVec Ideal S2048x512 .f32} {a b c : FVec Ideal S16x512 .f32} (h : Rows16 D a b c) :
    Rows8 D (minimumf (extractStridedSlice S8x512 ![0, 0] a slices_S16x512_o0_0_S8x512) (extractStridedSlice S8x512 ![8, 0] a slices_S16x512_o8_0_S8x512))
      (minimumf (maximumf (extractStridedSlice S8x512 ![0, 0] a slices_S16x512_o0_0_S8x512) (extractStridedSlice S8x512 ![8, 0] a slices_S16x512_o8_0_S8x512)) (minimumf (extractStridedSlice S8x512 ![0, 0] b slices_S16x512_o0_0_S8x512) (extractStridedSlice S8x512 ![8, 0] b slices_S16x512_o8_0_S8x512)))
      (minimumf (minimumf (maximumf (maximumf (extractStridedSlice S8x512 ![0, 0] a slices_S16x512_o0_0_S8x512) (extractStridedSlice S8x512 ![8, 0] a slices_S16x512_o8_0_S8x512)) (minimumf (extractStridedSlice S8x512 ![0, 0] b slices_S16x512_o0_0_S8x512) (extractStridedSlice S8x512 ![8, 0] b slices_S16x512_o8_0_S8x512))) (maximumf (extractStridedSlice S8x512 ![0, 0] b slices_S16x512_o0_0_S8x512) (extractStridedSlice S8x512 ![8, 0] b slices_S16x512_o8_0_S8x512))) (minimumf (extractStridedSlice S8x512 ![0, 0] c slices_S16x512_o0_0_S8x512) (extractStridedSlice S8x512 ![8, 0] c slices_S16x512_o8_0_S8x512))) := by
  intro r n
  have h1 := (h ⟨r.val, by omega⟩ n).merge (h ⟨8 + r.val, by omega⟩ n)
  have h2 : (fun t => cnt D 16 16 r.val n t + cnt D 16 16 (8 + r.val) n t) = cnt D 16 8 r.val n := by
    funext t
    unfold cnt
    rw [← Finset.sum_add_distrib]
    refine Finset.sum_congr rfl fun s _ => ?_
    have hr := r.isLt
    by_cases hd : D (ix2 s n) < t <;> simp only [hd, and_true, and_false, if_false] <;> split_ifs <;> omega
  rw [h2] at h1
  have hlo : ∀ f : FVec Ideal S16x512 .f32, (extractStridedSlice S8x512 ![0, 0] f slices_S16x512_o0_0_S8x512) (ix2 r n) = f (ix2 ⟨r.val, by omega⟩ n) := by
    intro f; pointwise
  have hhi : ∀ f : FVec Ideal S16x512 .f32, (extractStridedSlice S8x512 ![8, 0] f slices_S16x512_o8_0_S8x512) (ix2 r n) = f (ix2 ⟨8 + r.val, by omega⟩ n) := by
    intro f; pointwise
  simp only [minimumf_apply, maximumf_apply, hlo, hhi]
  exact h1

/-- The network's state at 4 rows. -/
def Rows4 (D : FVec Ideal S2048x512 .f32) (a b c : FVec Ideal S4x512 .f32) : Prop :=
  ∀ (r : Fin 4) (n : Fin 512), Top3.Is (a (ix2 r n)) (b (ix2 r n)) (c (ix2 r n)) (cnt D 16 4 r.val n)

/-- Halving to 4 rows. -/
theorem Rows4.of {D : FVec Ideal S2048x512 .f32} {a b c : FVec Ideal S8x512 .f32} (h : Rows8 D a b c) :
    Rows4 D (minimumf (extractStridedSlice S4x512 ![0, 0] a slices_S8x512_o0_0_S4x512) (extractStridedSlice S4x512 ![4, 0] a slices_S8x512_o4_0_S4x512))
      (minimumf (maximumf (extractStridedSlice S4x512 ![0, 0] a slices_S8x512_o0_0_S4x512) (extractStridedSlice S4x512 ![4, 0] a slices_S8x512_o4_0_S4x512)) (minimumf (extractStridedSlice S4x512 ![0, 0] b slices_S8x512_o0_0_S4x512) (extractStridedSlice S4x512 ![4, 0] b slices_S8x512_o4_0_S4x512)))
      (minimumf (minimumf (maximumf (maximumf (extractStridedSlice S4x512 ![0, 0] a slices_S8x512_o0_0_S4x512) (extractStridedSlice S4x512 ![4, 0] a slices_S8x512_o4_0_S4x512)) (minimumf (extractStridedSlice S4x512 ![0, 0] b slices_S8x512_o0_0_S4x512) (extractStridedSlice S4x512 ![4, 0] b slices_S8x512_o4_0_S4x512))) (maximumf (extractStridedSlice S4x512 ![0, 0] b slices_S8x512_o0_0_S4x512) (extractStridedSlice S4x512 ![4, 0] b slices_S8x512_o4_0_S4x512))) (minimumf (extractStridedSlice S4x512 ![0, 0] c slices_S8x512_o0_0_S4x512) (extractStridedSlice S4x512 ![4, 0] c slices_S8x512_o4_0_S4x512))) := by
  intro r n
  have h1 := (h ⟨r.val, by omega⟩ n).merge (h ⟨4 + r.val, by omega⟩ n)
  have h2 : (fun t => cnt D 16 8 r.val n t + cnt D 16 8 (4 + r.val) n t) = cnt D 16 4 r.val n := by
    funext t
    unfold cnt
    rw [← Finset.sum_add_distrib]
    refine Finset.sum_congr rfl fun s _ => ?_
    have hr := r.isLt
    by_cases hd : D (ix2 s n) < t <;> simp only [hd, and_true, and_false, if_false] <;> split_ifs <;> omega
  rw [h2] at h1
  have hlo : ∀ f : FVec Ideal S8x512 .f32, (extractStridedSlice S4x512 ![0, 0] f slices_S8x512_o0_0_S4x512) (ix2 r n) = f (ix2 ⟨r.val, by omega⟩ n) := by
    intro f; pointwise
  have hhi : ∀ f : FVec Ideal S8x512 .f32, (extractStridedSlice S4x512 ![4, 0] f slices_S8x512_o4_0_S4x512) (ix2 r n) = f (ix2 ⟨4 + r.val, by omega⟩ n) := by
    intro f; pointwise
  simp only [minimumf_apply, maximumf_apply, hlo, hhi]
  exact h1

/-- The network's state at 2 rows. -/
def Rows2 (D : FVec Ideal S2048x512 .f32) (a b c : FVec Ideal S2x512 .f32) : Prop :=
  ∀ (r : Fin 2) (n : Fin 512), Top3.Is (a (ix2 r n)) (b (ix2 r n)) (c (ix2 r n)) (cnt D 16 2 r.val n)

/-- Halving to 2 rows. -/
theorem Rows2.of {D : FVec Ideal S2048x512 .f32} {a b c : FVec Ideal S4x512 .f32} (h : Rows4 D a b c) :
    Rows2 D (minimumf (extractStridedSlice S2x512 ![0, 0] a slices_S4x512_o0_0_S2x512) (extractStridedSlice S2x512 ![2, 0] a slices_S4x512_o2_0_S2x512))
      (minimumf (maximumf (extractStridedSlice S2x512 ![0, 0] a slices_S4x512_o0_0_S2x512) (extractStridedSlice S2x512 ![2, 0] a slices_S4x512_o2_0_S2x512)) (minimumf (extractStridedSlice S2x512 ![0, 0] b slices_S4x512_o0_0_S2x512) (extractStridedSlice S2x512 ![2, 0] b slices_S4x512_o2_0_S2x512)))
      (minimumf (minimumf (maximumf (maximumf (extractStridedSlice S2x512 ![0, 0] a slices_S4x512_o0_0_S2x512) (extractStridedSlice S2x512 ![2, 0] a slices_S4x512_o2_0_S2x512)) (minimumf (extractStridedSlice S2x512 ![0, 0] b slices_S4x512_o0_0_S2x512) (extractStridedSlice S2x512 ![2, 0] b slices_S4x512_o2_0_S2x512))) (maximumf (extractStridedSlice S2x512 ![0, 0] b slices_S4x512_o0_0_S2x512) (extractStridedSlice S2x512 ![2, 0] b slices_S4x512_o2_0_S2x512))) (minimumf (extractStridedSlice S2x512 ![0, 0] c slices_S4x512_o0_0_S2x512) (extractStridedSlice S2x512 ![2, 0] c slices_S4x512_o2_0_S2x512))) := by
  intro r n
  have h1 := (h ⟨r.val, by omega⟩ n).merge (h ⟨2 + r.val, by omega⟩ n)
  have h2 : (fun t => cnt D 16 4 r.val n t + cnt D 16 4 (2 + r.val) n t) = cnt D 16 2 r.val n := by
    funext t
    unfold cnt
    rw [← Finset.sum_add_distrib]
    refine Finset.sum_congr rfl fun s _ => ?_
    have hr := r.isLt
    by_cases hd : D (ix2 s n) < t <;> simp only [hd, and_true, and_false, if_false] <;> split_ifs <;> omega
  rw [h2] at h1
  have hlo : ∀ f : FVec Ideal S4x512 .f32, (extractStridedSlice S2x512 ![0, 0] f slices_S4x512_o0_0_S2x512) (ix2 r n) = f (ix2 ⟨r.val, by omega⟩ n) := by
    intro f; pointwise
  have hhi : ∀ f : FVec Ideal S4x512 .f32, (extractStridedSlice S2x512 ![2, 0] f slices_S4x512_o2_0_S2x512) (ix2 r n) = f (ix2 ⟨2 + r.val, by omega⟩ n) := by
    intro f; pointwise
  simp only [minimumf_apply, maximumf_apply, hlo, hhi]
  exact h1

/-- The network's state at 1 row. -/
def Rows1 (D : FVec Ideal S2048x512 .f32) (a b c : FVec Ideal S1x512 .f32) : Prop :=
  ∀ (r : Fin 1) (n : Fin 512), Top3.Is (a (ix2 r n)) (b (ix2 r n)) (c (ix2 r n)) (cnt D 16 1 r.val n)

/-- Halving to 1 row. -/
theorem Rows1.of {D : FVec Ideal S2048x512 .f32} {a b c : FVec Ideal S2x512 .f32} (h : Rows2 D a b c) :
    Rows1 D (minimumf (extractStridedSlice S1x512 ![0, 0] a slices_S2x512_o0_0_S1x512) (extractStridedSlice S1x512 ![1, 0] a slices_S2x512_o1_0_S1x512))
      (minimumf (maximumf (extractStridedSlice S1x512 ![0, 0] a slices_S2x512_o0_0_S1x512) (extractStridedSlice S1x512 ![1, 0] a slices_S2x512_o1_0_S1x512)) (minimumf (extractStridedSlice S1x512 ![0, 0] b slices_S2x512_o0_0_S1x512) (extractStridedSlice S1x512 ![1, 0] b slices_S2x512_o1_0_S1x512)))
      (minimumf (minimumf (maximumf (maximumf (extractStridedSlice S1x512 ![0, 0] a slices_S2x512_o0_0_S1x512) (extractStridedSlice S1x512 ![1, 0] a slices_S2x512_o1_0_S1x512)) (minimumf (extractStridedSlice S1x512 ![0, 0] b slices_S2x512_o0_0_S1x512) (extractStridedSlice S1x512 ![1, 0] b slices_S2x512_o1_0_S1x512))) (maximumf (extractStridedSlice S1x512 ![0, 0] b slices_S2x512_o0_0_S1x512) (extractStridedSlice S1x512 ![1, 0] b slices_S2x512_o1_0_S1x512))) (minimumf (extractStridedSlice S1x512 ![0, 0] c slices_S2x512_o0_0_S1x512) (extractStridedSlice S1x512 ![1, 0] c slices_S2x512_o1_0_S1x512))) := by
  intro r n
  have h1 := (h ⟨r.val, by omega⟩ n).merge (h ⟨1 + r.val, by omega⟩ n)
  have h2 : (fun t => cnt D 16 2 r.val n t + cnt D 16 2 (1 + r.val) n t) = cnt D 16 1 r.val n := by
    funext t
    unfold cnt
    rw [← Finset.sum_add_distrib]
    refine Finset.sum_congr rfl fun s _ => ?_
    have hr := r.isLt
    by_cases hd : D (ix2 s n) < t <;> simp only [hd, and_true, and_false, if_false] <;> split_ifs <;> omega
  rw [h2] at h1
  have hlo : ∀ f : FVec Ideal S2x512 .f32, (extractStridedSlice S1x512 ![0, 0] f slices_S2x512_o0_0_S1x512) (ix2 r n) = f (ix2 ⟨r.val, by omega⟩ n) := by
    intro f; pointwise
  have hhi : ∀ f : FVec Ideal S2x512 .f32, (extractStridedSlice S1x512 ![1, 0] f slices_S2x512_o1_0_S1x512) (ix2 r n) = f (ix2 ⟨1 + r.val, by omega⟩ n) := by
    intro f; pointwise
  simp only [minimumf_apply, maximumf_apply, hlo, hhi]
  exact h1

variable (x1 : Vec Ideal S1x3x512 .f32) (x2 : Vec Ideal S1x3x2048 .f32)

/-- The state after five chunks. -/
theorem chunks5 : Chunks (nDist x1 x2) 5 (k0_pay23 (F := Ideal) x1 x2) (k0_pay25 (F := Ideal) x1 x2)
    (minimumf (k0_pay21 (F := Ideal) x1 x2) (k0_pay26 (F := Ideal) x1 x2)) := by
  have h0 := Chunks.step (Chunks.init (nDist x1 x2)) (by omega) (extractStridedSlice S128x512 ![0, 0] (nDist x1 x2) slices_S2048x512_o0_0_S128x512) (fun r n => by pointwise)
  have h1 := Chunks.step (h0) (by omega) (extractStridedSlice S128x512 ![128, 0] (nDist x1 x2) slices_S2048x512_o128_0_S128x512) (fun r n => by pointwise)
  have h2 := Chunks.step (h1) (by omega) (extractStridedSlice S128x512 ![256, 0] (nDist x1 x2) slices_S2048x512_o256_0_S128x512) (fun r n => by pointwise)
  have h3 := Chunks.step (h2) (by omega) (extractStridedSlice S128x512 ![384, 0] (nDist x1 x2) slices_S2048x512_o384_0_S128x512) (fun r n => by pointwise)
  have h4 := Chunks.step (h3) (by omega) (extractStridedSlice S128x512 ![512, 0] (nDist x1 x2) slices_S2048x512_o512_0_S128x512) (fun r n => by pointwise)
  exact h4

/-- The state after fifteen chunks. -/
theorem chunks15 : Chunks (nDist x1 x2) 15 (nA15 x1 x2) (nB15 x1 x2) (minimumf (nC14 x1 x2) (nU15 x1 x2)) := by
  have h5 := Chunks.step (chunks5 x1 x2) (by omega) (extractStridedSlice S128x512 ![640, 0] (nDist x1 x2) slices_S2048x512_o640_0_S128x512) (fun r n => by pointwise)
  have h6 := Chunks.step (h5) (by omega) (extractStridedSlice S128x512 ![768, 0] (nDist x1 x2) slices_S2048x512_o768_0_S128x512) (fun r n => by pointwise)
  have h7 := Chunks.step (h6) (by omega) (extractStridedSlice S128x512 ![896, 0] (nDist x1 x2) slices_S2048x512_o896_0_S128x512) (fun r n => by pointwise)
  have h8 := Chunks.step (h7) (by omega) (extractStridedSlice S128x512 ![1024, 0] (nDist x1 x2) slices_S2048x512_o1024_0_S128x512) (fun r n => by pointwise)
  have h9 := Chunks.step (h8) (by omega) (extractStridedSlice S128x512 ![1152, 0] (nDist x1 x2) slices_S2048x512_o1152_0_S128x512) (fun r n => by pointwise)
  have h10 := Chunks.step (h9) (by omega) (extractStridedSlice S128x512 ![1280, 0] (nDist x1 x2) slices_S2048x512_o1280_0_S128x512) (fun r n => by pointwise)
  have h11 := Chunks.step (h10) (by omega) (extractStridedSlice S128x512 ![1408, 0] (nDist x1 x2) slices_S2048x512_o1408_0_S128x512) (fun r n => by pointwise)
  have h12 := Chunks.step (h11) (by omega) (extractStridedSlice S128x512 ![1536, 0] (nDist x1 x2) slices_S2048x512_o1536_0_S128x512) (fun r n => by pointwise)
  have h13 := Chunks.step (h12) (by omega) (extractStridedSlice S128x512 ![1664, 0] (nDist x1 x2) slices_S2048x512_o1664_0_S128x512) (fun r n => by pointwise)
  have h14 := Chunks.step (h13) (by omega) (extractStridedSlice S128x512 ![1792, 0] (nDist x1 x2) slices_S2048x512_o1792_0_S128x512) (fun r n => by pointwise)
  exact h14

/-- The state after all chunks. -/
theorem chunks16 : Chunks (nDist x1 x2) 16 (k0_pay70 (nDist x1 x2) (nA15 x1 x2)) (k0_pay72 (nDist x1 x2) (nA15 x1 x2) (nB15 x1 x2))
    (minimumf (minimumf (nC14 x1 x2) (nU15 x1 x2)) (maximumf (nB15 x1 x2) (k0_pay71 (nDist x1 x2) (nA15 x1 x2)))) := by
  have h15 := Chunks.step (chunks15 x1 x2) (by omega) (k0_pay69 (nDist x1 x2)) (fun r n => by unfold k0_pay69; pointwise)
  exact h15

/-- The state at sixteen rows. -/
theorem rows16 : Rows16 (nDist x1 x2) (k0_pay93 (nDist x1 x2) (nA15 x1 x2)) (k0_pay96 (nDist x1 x2) (nA15 x1 x2) (nB15 x1 x2))
    (k0_pay97 (nDist x1 x2) (nC14 x1 x2) (nA15 x1 x2) (nB15 x1 x2) (nU15 x1 x2)) :=
  Rows16.of (Rows32.of (Rows64.of (chunks16 x1 x2)))

/-- The smallest distance of every column. -/
def nM1 : FVec Ideal S1x512 .f32 := minimumf (k0_pay124 (n165 x1 x2)) (k0_pay126 (n165 x1 x2))

/-- The state at one row. -/
theorem rows1_state : Rows1 (nDist x1 x2) (nM1 x1 x2) (nM2 x1 x2) (nM3 x1 x2) :=
  Rows1.of (Rows2.of (Rows4.of (Rows8.of (rows16 x1 x2))))

/-- At one row the count is that of the whole column. -/
theorem cnt_one (D : FVec Ideal S2048x512 .f32) (n : Fin 512) : cnt D 16 1 0 n = Top3.count (fun s : Fin 2048 => D (ix2 s n)) := by
  funext t
  unfold cnt Top3.count
  refine Finset.sum_congr rfl fun s _ => ?_
  have := s.isLt
  have h : s.val % 1 = 0 ∧ s.val < 16 * 128 ∧ D (ix2 s n) < t ↔ D (ix2 s n) < t := by
    constructor
    · exact fun h => h.2.2
    · exact fun h => ⟨by omega, by omega, h⟩
  simp only [h]

/-- The three results of the network are the three smallest distances of the column. -/
theorem network (n : Fin 512) :
    nM1 x1 x2 (ix2 0 n) = (Top3.least fun s : Fin 2048 => nDist x1 x2 (ix2 s n)).1
    ∧ nM2 x1 x2 (ix2 0 n) = (Top3.least fun s : Fin 2048 => nDist x1 x2 (ix2 s n)).2.1
    ∧ nM3 x1 x2 (ix2 0 n) = (Top3.least fun s : Fin 2048 => nDist x1 x2 (ix2 s n)).2.2 := by
  have h := rows1_state x1 x2 0 n
  rw [show ((0 : Fin 1).val) = 0 from rfl, cnt_one] at h
  exact Top3.eq_least h

end Cert.KernelIdeal.Values

end
-- ==== Proof.KnnVal.lean ====
/- The first region's arrays: the distances of every pair of points, the features of every point, and the products of the
   features' rows added up over the whole array. -/
module

public import proofs.«01_k».proof.Proof.Network

@[expose] public section

set_option maxRecDepth 16384

noncomputable section

namespace Cert.KernelIdeal.Values

open Idealize.ShloMosaic Idealize.ShloMosaic.TcCoe Idealize.ShloMosaic.Tactic
open Cert.KernelIdeal Cert.KernelIdeal.Gen

/-- The small number added to a distance. -/
def eps8 : EReal := Ideal.ofBits .f32 0x322BCC77#32
/-- The kernel's two. -/
def two : EReal := Ideal.ofBits .f32 0x40000000#32

/-- A tile's distance at an index. -/
theorem nDist_apply (x1 : Vec Ideal S1x3x512 .f32) (x2 : Vec Ideal S1x3x2048 .f32) (j : S2048x512.Idx) :
    nDist x1 x2 j = ((∑ c : Fin 3, x2 (ix3 0 c (j 0)) * x2 (ix3 0 c (j 0))) + ∑ c : Fin 3, x1 (ix3 0 c (j 1)) * x1 (ix3 0 c (j 1)))
      - two * ∑ c : Fin 3, x2 (ix3 0 c (j 0)) * x1 (ix3 0 c (j 1)) := by
  unfold nDist k0_pay3 two
  pointwise

/-- The weight a point gives another at distance `x`. -/
def wt (x : EReal) : EReal := Ideal.div 1 (x + eps8)

/-- The nearest neighbour's weight at an index. -/
theorem nR1_apply (x1 : Vec Ideal S1x3x512 .f32) (x2 : Vec Ideal S1x3x2048 .f32) (n : Fin 512) :
    nR1 x1 x2 (ix2 0 n) = wt (nM1 x1 x2 (ix2 0 n)) := by
  unfold nR1 k0_pay132 nM1 wt eps8
  pointwise

/-- A point's interpolated feature from the distances `d`, the three smallest of them, and the features `f` of the points. -/
def interp (d : Fin 2048 → EReal) (f : Fin 2048 → EReal) : EReal :=
  (∑ s : Fin 2048, f s * (if d s ≤ (Top3.least d).2.2 then wt (d s) else 0))
    * Ideal.div 1 (wt (Top3.least d).1 + wt (Top3.least d).2.1 + wt (Top3.least d).2.2)

variable (x1 : Vec Ideal S1x3x512 .f32) (x2 : Vec Ideal S1x3x2048 .f32) (p1 : Vec Ideal S1x64x512 .f32) (p2 : Vec Ideal S1x64x2048 .f32)

/-- A tile's feature at an index. -/
theorem nX_apply (o : Fin 128) (n : Fin 512) :
    nX x1 x2 p1 p2 (ix2 o n) = if h : o.val < 64 then p1 (ix3 0 ⟨o.val, h⟩ n)
      else interp (fun s => nDist x1 x2 (ix2 s n)) (fun s => p2 (ix3 0 ⟨o.val - 64, by omega⟩ s)) := by
  obtain ⟨h1, h2, h3⟩ := network x1 x2 n
  unfold interp
  rw [← h1, ← h2, ← h3, ← nR1_apply]
  unfold nX k0_pay134 k0_pay133 wt eps8
  pointwise

/-- The distance of point `s` of the second cloud from point `n` of the first. -/
def KD (X1 : Vec Ideal S4x3x8192 .f32) (X2 : Vec Ideal S4x3x2048 .f32) (b : Fin 4) (n : Fin 8192) (s : Fin 2048) : EReal :=
  ((∑ c : Fin 3, X2 (ix3 b c s) * X2 (ix3 b c s)) + ∑ c : Fin 3, X1 (ix3 b c n) * X1 (ix3 b c n))
    - two * ∑ c : Fin 3, X2 (ix3 b c s) * X1 (ix3 b c n)

/-- The features of every point: the first cloud's own and the interpolated ones. -/
def KX (X1 : Vec Ideal S4x3x8192 .f32) (X2 : Vec Ideal S4x3x2048 .f32) (P1 : Vec Ideal S4x64x8192 .f32)
    (P2 : Vec Ideal S4x64x2048 .f32) : Vec Ideal S4x128x8192 .f32 := fun j =>
  if h : (j 1).val < 64 then P1 (ix3 (j 0) ⟨(j 1).val, h⟩ (j 2))
  else interp (KD X1 X2 (j 0) (j 2)) (fun s => P2 (ix3 (j 0) ⟨(j 1).val - 64, by have : (j 1).val < 128 := (j 1).isLt; omega⟩ s))

/-- The features read at an index. -/
theorem KX_ix3 (X1 : Vec Ideal S4x3x8192 .f32) (X2 : Vec Ideal S4x3x2048 .f32) (P1 : Vec Ideal S4x64x8192 .f32)
    (P2 : Vec Ideal S4x64x2048 .f32) (b : Fin 4) (o : Fin 128) (n : Fin 8192) :
    KX X1 X2 P1 P2 (ix3 b o n) = if h : o.val < 64 then P1 (ix3 b ⟨o.val, h⟩ n)
      else interp (KD X1 X2 b n) (fun s => P2 (ix3 b ⟨o.val - 64, by omega⟩ s)) := rfl

variable (V : (c : Dev nD) → (b : Ref sig .tc) → Buf (Elt Ideal) ((c : Thread nD τ).loc b))

/-- The first region's window positions at every point. -/
theorem idx0 : ∀ t : Fin cfg0.N, win0_0.index t = ![t.val / 16, 0, t.val % 16] ∧ win0_1.index t = ![t.val / 16, 0, 0]
    ∧ win0_2.index t = ![t.val / 16, 0, t.val % 16] ∧ win0_3.index t = ![t.val / 16, 0, 0]
    ∧ win0_4.index t = ![t.val / 16, 0, t.val % 16] ∧ win0_5.index t = ![0, 0] :=
  (by decide +kernel : ∀ t : Fin grid0.N, _)

/-- The rows of a tile are the rows of the whole feature array at that tile. -/
theorem rows0 (c : Dev nD) (t : Fin cfg0.N) (k : Fin 128) (i : Fin 512) :
    nX (iblk0 V c 0 t) (iblk0 V c 1 t) (iblk0 V c 2 t) (iblk0 V c 3 t) (ix2 k i)
      = KX (V c (Pipeline.arrRef spec0 0)) (V c (Pipeline.arrRef spec0 1)) (V c (Pipeline.arrRef spec0 2)) (V c (Pipeline.arrRef spec0 3))
          (ix3 ⟨t.val / 16 % 4, by omega⟩ k ⟨t.val % 16 * 512 + i.val, by omega⟩) := by
  have ht : t.val < 64 := t.isLt
  have h4 : t.val / 16 % 4 = t.val / 16 := by omega
  have hD : (fun s => nDist (iblk0 V c 0 t) (iblk0 V c 1 t) (ix2 s i))
      = KD (V c (Pipeline.arrRef spec0 0)) (V c (Pipeline.arrRef spec0 1)) ⟨t.val / 16 % 4, by omega⟩ ⟨t.val % 16 * 512 + i.val, by omega⟩ := by
    funext s
    rw [nDist_apply]
    unfold KD
    blk_point [iblk0, idx0 t, h4]
  rw [nX_apply, hD, KX_ix3]
  by_cases hk : k.val < 64
  · rw [dif_pos hk, dif_pos hk]
    blk_ext [iblk0, idx0 t, h4]
  · rw [dif_neg hk, dif_neg hk]
    congr 1
    funext s
    blk_ext [iblk0, idx0 t, h4]

/-- What the first region's feature array holds. -/
theorem arr0_4 (c : Dev nD) : (dat0 V c).arrAt 4 cfg0.N
    = KX (V c (Pipeline.arrRef spec0 0)) (V c (Pipeline.arrRef spec0 1)) (V c (Pipeline.arrRef spec0 2)) (V c (Pipeline.arrRef spec0 3)) := by
  refine (dat0 V c).arrAt_eq_of_covers 4 _ (by decide +kernel) fun t hf y => ?_
  have ht : t.val < 64 := t.isLt
  have h4 : t.val / 16 % 4 = t.val / 16 := by omega
  blk_simp
  rw [after0_4, outs0_fst]
  have h1 : ∀ f : FVec Ideal S128x512 .f32, shapeCast S1x128x512 f shapeCasts_S128x512_S1x128x512 y = f (ix2 (y 1) (y 2)) := by
    intro f; pointwise
  rw [h1]
  refine (rows0 V c t (y 1) (y 2)).trans ?_
  blk_ext [idx0 t, h4]

/-- The first region's accumulation step at an index. -/
theorem nG_apply (g : FVec Ideal S136x136 .f32) (j : S136x136.Idx) :
    k0_pay2 (nG x1 x2 p1 p2) g j
      = g j + ∑ i : Fin 512, aug (fun k => nX x1 x2 p1 p2 (ix2 k i)) (j 0) * aug (fun k => nX x1 x2 p1 p2 (ix2 k i)) (j 1) := by
  have h : nG x1 x2 p1 p2 = k0_pay136 (nDist x1 x2) (nM2 x1 x2) (nM3 x1 x2) (nR1 x1 x2) (k0_pay133 (F := Ideal)) p2 p1 := rfl
  rw [h]
  unfold k0_pay2 k0_pay136 aug
  rw [show k0_pay134 (nDist x1 x2) (nM2 x1 x2) (nM3 x1 x2) (nR1 x1 x2) (k0_pay133 (F := Ideal)) p2 p1 = nX x1 x2 p1 p2 from rfl]
  generalize nX x1 x2 p1 p2 = X
  pointwise

/-- What the first region's accumulator holds after the last point. -/
theorem outs0_snd (c : Dev nD) (t : Fin cfg0.N) (ht : t.val % 64 = 63) (j : S136x136.Idx) :
    (outsAt0 V c t.val t.isLt).2 j
      = GRAM (KX (V c (Pipeline.arrRef spec0 0)) (V c (Pipeline.arrRef spec0 1)) (V c (Pipeline.arrRef spec0 2)) (V c (Pipeline.arrRef spec0 3))) j := by
  have hz : ∀ j, k0_pay1 (F := Ideal) j = 0 := by
    intro j
    unfold k0_pay1
    pointwise
  rw [Pipeline.eq_sum_of_reset_step_apply_of_mod (f := fun n h => (outsAt0 V c n h).2) 64 (fun _ => 0)
    (gterm (KX (V c (Pipeline.arrRef spec0 0)) (V c (Pipeline.arrRef spec0 1)) (V c (Pipeline.arrRef spec0 2)) (V c (Pipeline.arrRef spec0 3))))
    (fun t h j => by
      rw [outs0_snd_A V c t h, nG_apply, hz]
      simp only [rows0]; rfl)
    (fun t h j => by
      rw [outs0_snd_B V c t h, nG_apply]
      simp only [rows0]; rfl) t ht j]
  have h0 : t.val / 64 = 0 := by have : t.val < 64 := t.isLt; omega
  simp only [h0, Nat.mul_zero, Nat.zero_add, zero_add]
  rfl

/-- What the first region's accumulator array holds. -/
theorem arr0_5 (c : Dev nD) : (dat0 V c).arrAt 5 cfg0.N
    = GRAM (KX (V c (Pipeline.arrRef spec0 0)) (V c (Pipeline.arrRef spec0 1)) (V c (Pipeline.arrRef spec0 2)) (V c (Pipeline.arrRef spec0 3))) := by
  refine (dat0 V c).arrAt_eq_of_covers 5 _ (by decide +kernel) fun t hf y => ?_
  blk_simp
  rw [after0_5, outs0_snd V c t ((flush0_5 t).mp hf)]
  blk_ext [idx0 t]

end Cert.KernelIdeal.Values

end
-- ==== Proof.Fold.lean ====
/- The host's folding of a layer's normalization into its weights: what the two stretches of host operations leave. -/
module

public import proofs.«01_k».proof.Proof.Gen.KernelIdeal.Frame
public import Idealize.ShloMosaic.Lib.StableHlo.Run
public import Idealize.ShloMosaic.Lib.ValueIdx
public import Idealize.ShloMosaic.Lib.Pointwise

@[expose] public section

set_option maxRecDepth 16384

noncomputable section

namespace Cert.KernelIdeal.Values

open Idealize.ShloMosaic Idealize.ShloMosaic.TcCoe Idealize.ShloMosaic.Tactic
open Cert.KernelIdeal Cert.KernelIdeal.Gen

/-- A printed constant at every channel. -/
def cst128 (b : BitVec 32) : FVec Ideal S128 .f32 := broadcastInDim S128 ![] bcast_S_S128 (constant (F := Ideal) S_ .f32 b)

variable (G : FVec Ideal S136x136 .f32) (W : FVec Ideal S128x128 .f32) (b g be : FVec Ideal S128 .f32)

/-- The layer's linear part of the mean: the weights against the mean input. -/
def fWm : FVec Ideal S128 .f32 :=
  Host.dotGeneral dot_S128x128_S128_S128_1_0_0_n_n_n none W
    (Host.divf (shapeCast S128 (extractStridedSlice S1x128 ![128, 0] G slices_S136x136_S1x128_128_0) shapeCasts_S1x128_S128) (cst128 0x47000000#32))
/-- The mean. -/
def fMean : FVec Ideal S128 .f32 := addf (fWm G W) b
/-- The mean square of the linear part. -/
def fQ : FVec Ideal S128 .f32 :=
  Host.divf (Host.reduceAdd (mulf (Host.dotGeneral dot_S128x128_S128x128_S128x128_1_0_0_1_n_n none W
    (extractStridedSlice S128x128 ![0, 0] G slices_S136x136_S128x128_0_0)) W) (constant (F := Ideal) S_ .f32 0x00000000#32) reducesTo_S128x128_S128_d1 h_S_)
    (cst128 0x47000000#32)
/-- The variance. -/
def fVar : FVec Ideal S128 .f32 :=
  subf (addf (addf (fQ G W) (mulf (mulf (cst128 0x40000000#32) b) (fWm G W))) (mulf b b)) (mulf (fMean G W b) (fMean G W b))
/-- The factor of a channel. -/
def fScale : FVec Ideal S128 .f32 := Host.divf g (Host.sqrt (addf (fVar G W b) (cst128 0x3727C5AC#32)))
/-- The folded weights. -/
def foldV : FVec Ideal S128x136 .f32 :=
  concatenate S128x136 1 [⟨S128x128, (mulf (broadcastInDim S128x128 ![0, 1] bcast_S128x1_S128x128_0_1
      (broadcastInDim S128x1 ![0] bcast_S128_S128x1_0 (fScale G W b g))) W : FVec Ideal S128x128 .f32)⟩,
    ⟨S128x1, (broadcastInDim S128x1 ![0] bcast_S128_S128x1_0 (addf (mulf (fScale G W b g) (subf b (fMean G W b))) be) : FVec Ideal S128x1 .f32)⟩,
    ⟨S128x7, (broadcastInDim S128x7 ![] bcast_S_S128x7 (constant (F := Ideal) S_ .f32 0x00000000#32) : FVec Ideal S128x7 .f32)⟩]
    concatenates_S128x128_S128x1_S128x7_S128x136_d1

/-- The first stretch leaves the first layer's folded weights. -/
theorem fold1 (V : Valuation τ sig (Elt Ideal)) :
    StableHlo.after hostOps1 V (Proc.devRef .tc main_v33)
      = foldV (V (Proc.devRef .tc main_v0_1)) (V (Proc.devRef .tc main_arg4)) (V (Proc.devRef .tc main_arg5))
          (V (Proc.devRef .tc main_arg6)) (V (Proc.devRef .tc main_arg7)) := by
  after_results_simp
  rfl

/-- The second stretch leaves the second layer's folded weights. -/
theorem fold2 (V : Valuation τ sig (Elt Ideal)) :
    StableHlo.after hostOps2 V (Proc.devRef .tc main_v67)
      = foldV (V (Proc.devRef .tc main_v34_1)) (V (Proc.devRef .tc main_arg8)) (V (Proc.devRef .tc main_arg9))
          (V (Proc.devRef .tc main_arg10)) (V (Proc.devRef .tc main_arg11)) := by
  after_results_simp
  rfl

/-- The number of points as printed. -/
def npts : EReal := Ideal.ofBits .f32 0x47000000#32
/-- The small number added to a variance as printed. -/
def eps5 : EReal := Ideal.ofBits .f32 0x3727C5AC#32

/-- The linear part of the mean at a channel. -/
theorem fWm_apply (o : Fin 128) :
    fWm G W (ix1 o) = ∑ k : Fin 128, W (ix2 o k) * Ideal.div (G (ix2 128 ⟨k.val, by omega⟩)) npts := by
  unfold fWm cst128 npts
  pointwise

/-- The mean square at a channel. -/
theorem fQ_apply (o : Fin 128) :
    fQ G W (ix1 o) = Ideal.div (∑ k : Fin 128, (∑ l : Fin 128, W (ix2 o l) * G (ix2 ⟨l.val, by omega⟩ ⟨k.val, by omega⟩)) * W (ix2 o k)) npts := by
  unfold fQ cst128 npts
  pointwise

/-- The variance at a channel. -/
theorem fVar_apply (o : Fin 128) :
    fVar G W b (ix1 o) = fQ G W (ix1 o) + Ideal.ofBits .f32 0x40000000#32 * b (ix1 o) * fWm G W (ix1 o) + b (ix1 o) * b (ix1 o)
      - (fWm G W (ix1 o) + b (ix1 o)) * (fWm G W (ix1 o) + b (ix1 o)) := by
  unfold fVar fMean cst128
  generalize fQ G W = q
  generalize fWm G W = w
  pointwise

/-- The factor of a channel. -/
theorem fScale_apply (o : Fin 128) :
    fScale G W b g (ix1 o) = Ideal.div (g (ix1 o)) (Ideal.sqrt (fVar G W b (ix1 o) + eps5)) := by
  unfold fScale cst128 eps5
  generalize fVar G W b = v
  pointwise

/-- The folded weights' entries. -/
theorem foldV_apply (o : Fin 128) (k : Fin 136) :
    foldV G W b g be (ix2 o k) = if h : k.val < 128 then fScale G W b g (ix1 o) * W (ix2 o ⟨k.val, h⟩)
      else if k.val = 128 then fScale G W b g (ix1 o) * (b (ix1 o) - (fWm G W (ix1 o) + b (ix1 o))) + be (ix1 o) else 0 := by
  unfold foldV fMean
  generalize fScale G W b g = sc
  generalize fWm G W = w
  pointwise
  by_cases h : k.val < 128
  · rw [dif_pos h, dif_pos h]
  · rw [dif_neg h, dif_neg h]
    by_cases h' : k.val = 128
    · rw [dif_pos (by omega), if_pos h']
    · rw [dif_neg (by omega), if_neg h']

end Cert.KernelIdeal.Values

end
-- ==== Proof.Kernel.lean ====
/- The kernel's result array as a function of its arguments. -/
module

public import proofs.«01_k».proof.Proof.KnnVal
public import proofs.«01_k».proof.Proof.Fold

@[expose] public section

set_option maxRecDepth 16384

noncomputable section

namespace Cert.KernelIdeal.Values

open Idealize.ShloMosaic Idealize.ShloMosaic.TcCoe Idealize.ShloMosaic.Tactic
open Cert.KernelIdeal Cert.KernelIdeal.Gen

/-- One layer of the kernel: the weights folded with the products of the input's rows, then the rectified affine map. -/
def KL (X : Vec Ideal S4x128x8192 .f32) (W : Vec Ideal S128x128 .f32) (b g be : Vec Ideal S128 .f32) : Vec Ideal S4x128x8192 .f32 :=
  AFF (foldV (GRAM X) W b g be) X

variable (m : (ℓ : Loc nD τ sig) → Buf (Elt Ideal) ℓ) (ρ : Dev nD → PrngReg)

/-- The features after the first region. -/
def featK (c : Dev nD) : Vec Ideal S4x128x8192 .f32 :=
  KX (m ((c : Thread nD τ).loc main_arg0)) (m ((c : Thread nD τ).loc main_arg1)) (m ((c : Thread nD τ).loc main_arg2)) (m ((c : Thread nD τ).loc main_arg3))

/-- After the first region the feature array. -/
theorem W1_feat (c : Dev nD) : W1 m ρ c (Proc.devRef .tc main_v0_0) = featK m c :=
  (W1_arr m ρ c 4).trans (arr0_4 (V0 m ρ) c)

/-- After the first region the products of its rows. -/
theorem W1_gram (c : Dev nD) : W1 m ρ c (Proc.devRef .tc main_v0_1) = GRAM (featK m c) :=
  (W1_arr m ρ c 5).trans (arr0_5 (V0 m ρ) c)

/-- Before the second region the feature array. -/
theorem W2_feat (c : Dev nD) : W2 m ρ c (Proc.devRef .tc main_v0_0) = featK m c :=
  (W2_of m ρ c main_v0_0 (by decide)).trans (W1_feat m ρ c)

/-- Before the second region the first layer's folded weights. -/
theorem W2_fold (c : Dev nD) : W2 m ρ c (Proc.devRef .tc main_v33)
    = foldV (GRAM (featK m c)) (m ((c : Thread nD τ).loc main_arg4)) (m ((c : Thread nD τ).loc main_arg5))
        (m ((c : Thread nD τ).loc main_arg6)) (m ((c : Thread nD τ).loc main_arg7)) := by
  refine (fold1 (W1 m ρ c)).trans ?_
  rw [W1_gram m ρ c, W1_args m ρ c main_arg4 (by decide), W1_args m ρ c main_arg5 (by decide),
    W1_args m ρ c main_arg6 (by decide), W1_args m ρ c main_arg7 (by decide)]

/-- The first layer's output. -/
def hidK (c : Dev nD) : Vec Ideal S4x128x8192 .f32 :=
  KL (featK m c) (m ((c : Thread nD τ).loc main_arg4)) (m ((c : Thread nD τ).loc main_arg5))
        (m ((c : Thread nD τ).loc main_arg6)) (m ((c : Thread nD τ).loc main_arg7))

/-- After the second region its first output array. -/
theorem W3_hid (c : Dev nD) : W3 m ρ c (Proc.devRef .tc main_v34_0) = hidK m c := by
  refine (W3_arr m ρ c 2).trans ((arr1_2 (V2 m ρ) c).trans ?_)
  exact congrArg₂ AFF (W2_fold m ρ c) (W2_feat m ρ c)

/-- After the second region the products of its rows. -/
theorem W3_gram (c : Dev nD) : W3 m ρ c (Proc.devRef .tc main_v34_1) = GRAM (hidK m c) := by
  refine (W3_arr m ρ c 3).trans ((arr1_3 (V2 m ρ) c).trans ?_)
  exact congrArg GRAM (congrArg₂ AFF (W2_fold m ρ c) (W2_feat m ρ c))

/-- Before the third region the first layer's output. -/
theorem W4_hid (c : Dev nD) : W4 m ρ c (Proc.devRef .tc main_v34_0) = hidK m c :=
  (W4_of m ρ c main_v34_0 (by decide)).trans (W3_hid m ρ c)

/-- Before the third region the second layer's folded weights. -/
theorem W4_fold (c : Dev nD) : W4 m ρ c (Proc.devRef .tc main_v67)
    = foldV (GRAM (hidK m c)) (m ((c : Thread nD τ).loc main_arg8)) (m ((c : Thread nD τ).loc main_arg9))
        (m ((c : Thread nD τ).loc main_arg10)) (m ((c : Thread nD τ).loc main_arg11)) := by
  refine (fold2 (W3 m ρ c)).trans ?_
  rw [W3_gram m ρ c, W3_args m ρ c main_arg8 (by decide), W3_args m ρ c main_arg9 (by decide),
    W3_args m ρ c main_arg10 (by decide), W3_args m ρ c main_arg11 (by decide)]

/-- The result array: the two layers over the features. -/
theorem W5_result (c : Dev nD) : W5 m ρ c (Proc.devRef .tc main_v68)
    = KL (hidK m c) (m ((c : Thread nD τ).loc main_arg8)) (m ((c : Thread nD τ).loc main_arg9))
        (m ((c : Thread nD τ).loc main_arg10)) (m ((c : Thread nD τ).loc main_arg11)) := by
  refine (W5_arr m ρ c 2).trans ((arr2 (V4 m ρ) c).trans ?_)
  exact congrArg₂ AFF (W4_fold m ρ c) (W4_hid m ρ c)

end Cert.KernelIdeal.Values

end
-- ==== Proof.RealMath.lean ====
/- The real-number content of a layer: variance from second moments, sums over tiles, and the extended reals' operations at reals. -/
module

public import proofs.«01_k».proof.Proof.Consts
public import Mathlib.Tactic.Ring
public import Mathlib.Tactic.FieldSimp
public import Mathlib.Tactic.Positivity
public import Mathlib.Tactic.Linarith

@[expose] public section

noncomputable section

namespace RealMath

open Idealize.ShloMosaic

/-- A finite sum of reals among the extended reals. -/
theorem coe_sum {ι : Type} (s : Finset ι) (f : ι → ℝ) : (∑ i ∈ s, ((f i : ℝ) : EReal)) = ((∑ i ∈ s, f i : ℝ) : EReal) := by
  induction s using Finset.cons_induction with
  | empty => simp
  | cons a s h ih => rw [Finset.sum_cons, Finset.sum_cons, ih, EReal.coe_add]

/-- A quotient of reals. -/
theorem div_real (a b : ℝ) (hb : b ≠ 0) : Ideal.div (a : EReal) (b : EReal) = ((a / b : ℝ) : EReal) := by
  rw [Ideal.div_coe hb, ← EReal.coe_mul, mul_one_div]

/-- A square root of a nonnegative real. -/
theorem sqrt_real (a : ℝ) (ha : 0 ≤ a) : Ideal.sqrt (a : EReal) = ((Real.sqrt a : ℝ) : EReal) := by
  rw [Ideal.sqrt_coe, if_neg (not_lt.2 ha)]

/-- A sum over the 64 tiles of 512 points is the sum over the batches and points. -/
theorem tile_sum (F : Fin 4 → Fin 8192 → EReal) :
    (∑ t ∈ Finset.range 64, ∑ i : Fin 512, F ⟨t / 16 % 4, by omega⟩ ⟨t % 16 * 512 + i.val, by omega⟩) = ∑ b : Fin 4, ∑ n : Fin 8192, F b n := by
  rw [Finset.sum_range, ← Finset.sum_product', ← Finset.sum_product']
  refine Finset.sum_nbij' (fun p : Fin 64 × Fin 512 => ((⟨p.1.val / 16 % 4, by omega⟩ : Fin 4), (⟨p.1.val % 16 * 512 + p.2.val, by omega⟩ : Fin 8192)))
    (fun p : Fin 4 × Fin 8192 => ((⟨p.1.val * 16 + p.2.val / 512, by omega⟩ : Fin 64), (⟨p.2.val % 512, by omega⟩ : Fin 512))) ?_ ?_ ?_ ?_ ?_
  · intro p _; simp
  · intro p _; simp
  · rintro ⟨⟨t, ht⟩, ⟨i, hi⟩⟩ _
    simp only [Prod.mk.injEq, Fin.mk.injEq]
    omega
  · rintro ⟨⟨t, ht⟩, ⟨i, hi⟩⟩ _
    simp only [Prod.mk.injEq, Fin.mk.injEq]
    omega
  · intro p _; rfl

/-- The number of points. -/
def M : ℝ := 32768

theorem M_ne : M ≠ 0 := by unfold M; norm_num

/-- The mean over all points. -/
def rmean (y : Fin 4 → Fin 8192 → ℝ) : ℝ := (∑ b, ∑ n, y b n) / M

/-- The variance over all points. -/
def rvar (y : Fin 4 → Fin 8192 → ℝ) : ℝ := rmean fun b n => (y b n - rmean y) * (y b n - rmean y)

theorem rvar_nonneg (y : Fin 4 → Fin 8192 → ℝ) : 0 ≤ rvar y := by
  unfold rvar
  conv_rhs => unfold rmean
  have : (0 : ℝ) < M := by unfold M; norm_num
  exact div_nonneg (Finset.sum_nonneg fun b _ => Finset.sum_nonneg fun n _ => mul_self_nonneg _) this.le

/-- A channel's linear part. -/
def rz (x : Fin 4 → Fin 128 → Fin 8192 → ℝ) (w : Fin 128 → ℝ) (b : Fin 4) (n : Fin 8192) : ℝ := ∑ k, x b k n * w k

/-- Exchanging the sum over points with a finite sum. -/
theorem points_comm {m : ℕ} (f : Fin 4 → Fin 8192 → Fin m → ℝ) :
    (∑ b, ∑ n, ∑ k, f b n k) = ∑ k, ∑ b, ∑ n, f b n k := by
  have h : ∀ b, (∑ n, ∑ k, f b n k) = ∑ k, ∑ n, f b n k := fun b => Finset.sum_comm
  rw [Finset.sum_congr rfl fun b _ => h b, Finset.sum_comm]

/-- The sum of the linear part over all points. -/
theorem sum_rz (x : Fin 4 → Fin 128 → Fin 8192 → ℝ) (w : Fin 128 → ℝ) :
    (∑ b, ∑ n, rz x w b n) = ∑ k, w k * ∑ b, ∑ n, x b k n := by
  unfold rz
  rw [points_comm]
  refine Finset.sum_congr rfl fun k _ => ?_
  rw [Finset.mul_sum]
  refine Finset.sum_congr rfl fun b _ => ?_
  rw [Finset.mul_sum]
  exact Finset.sum_congr rfl fun n _ => mul_comm _ _

/-- The sum of the linear part's squares over all points. -/
theorem sum_rz_sq (x : Fin 4 → Fin 128 → Fin 8192 → ℝ) (w : Fin 128 → ℝ) :
    (∑ b, ∑ n, rz x w b n * rz x w b n) = ∑ k, (∑ l, w l * ∑ b, ∑ n, x b l n * x b k n) * w k := by
  have h : ∀ b n, rz x w b n * rz x w b n = ∑ k, ∑ l, w l * (x b l n * x b k n) * w k := fun b n => by
    unfold rz
    rw [Finset.sum_mul_sum, Finset.sum_comm]
    exact Finset.sum_congr rfl fun k _ => Finset.sum_congr rfl fun l _ => by ring
  simp only [h]
  rw [points_comm]
  refine Finset.sum_congr rfl fun k _ => ?_
  rw [points_comm, Finset.sum_mul]
  refine Finset.sum_congr rfl fun l _ => ?_
  rw [Finset.mul_sum, Finset.sum_mul]
  refine Finset.sum_congr rfl fun b _ => ?_
  rw [Finset.mul_sum, Finset.sum_mul]

/-- The mean moves with the bias. -/
theorem rmean_add (z : Fin 4 → Fin 8192 → ℝ) (c : ℝ) : rmean (fun b n => z b n + c) = rmean z + c := by
  unfold rmean
  simp only [Finset.sum_add_distrib, Finset.sum_const, Finset.card_univ, Fintype.card_fin, nsmul_eq_mul]
  unfold M
  push_cast
  ring

/-- The variance from the second moment and the mean of the linear part, with the bias expanded. -/
theorem rvar_eq (z : Fin 4 → Fin 8192 → ℝ) (c : ℝ) :
    rvar (fun b n => z b n + c) = (∑ b, ∑ n, z b n * z b n) / M + 2 * c * rmean z + c * c - (rmean z + c) * (rmean z + c) := by
  have hm := rmean_add z c
  unfold rvar
  rw [hm]
  have h1 : ∀ b n, (z b n + c - (rmean z + c)) * (z b n + c - (rmean z + c)) = z b n * z b n - 2 * rmean z * z b n + rmean z * rmean z := fun b n => by ring
  simp only [h1]
  have hs : (∑ b, ∑ n, z b n) = M * rmean z := by unfold rmean; field_simp [M_ne]
  generalize rmean z = m at *
  unfold rmean
  simp only [Finset.sum_add_distrib, Finset.sum_sub_distrib, Finset.sum_const, Finset.card_univ, Fintype.card_fin, nsmul_eq_mul, ← Finset.mul_sum, hs]
  unfold M
  push_cast
  ring

end RealMath

end
-- ==== Proof.KerReal.lean ====
/- The kernel's layer at real inputs: the folded weights give the normalised channel. -/
module

public import proofs.«01_k».proof.Proof.Kernel
public import proofs.«01_k».proof.Proof.RealMath

@[expose] public section

set_option maxRecDepth 16384

noncomputable section

namespace Cert.KernelIdeal.Values

open Idealize.ShloMosaic Idealize.ShloMosaic.TcCoe Idealize.ShloMosaic.Tactic
open Cert.KernelIdeal Cert.KernelIdeal.Gen RealMath

/-- The number of points is the real one. -/
theorem npts_eq : npts = ((RealMath.M : ℝ) : EReal) := Cert.Consts.points_f32

/-- The products of rows as sums over batches and points. -/
theorem GRAM_ix2 (x : Vec Ideal S4x128x8192 .f32) (p q : Fin 136) :
    GRAM x (ix2 p q) = ∑ b : Fin 4, ∑ n : Fin 8192, aug (fun k => x (ix3 b k n)) p * aug (fun k => x (ix3 b k n)) q :=
  tile_sum fun b n => aug (fun k => x (ix3 b k n)) p * aug (fun k => x (ix3 b k n)) q

section
variable (x : Vec Ideal S4x128x8192 .f32) (W : Vec Ideal S128x128 .f32) (bias g : Vec Ideal S128 .f32)
    (xr : Fin 4 → Fin 128 → Fin 8192 → ℝ) (Wr : Fin 128 → Fin 128 → ℝ) (br gr : Fin 128 → ℝ)
    (hx : ∀ b k n, x (ix3 b k n) = ((xr b k n : ℝ) : EReal)) (hW : ∀ o k, W (ix2 o k) = ((Wr o k : ℝ) : EReal))
    (hb : ∀ o, bias (ix1 o) = ((br o : ℝ) : EReal)) (hg : ∀ o, g (ix1 o) = ((gr o : ℝ) : EReal))

include hx in
/-- The product of two of the input's rows. -/
theorem GRAM_rows (l k : Fin 128) :
    GRAM x (ix2 ⟨l.val, by omega⟩ ⟨k.val, by omega⟩) = ((∑ b, ∑ n, xr b l n * xr b k n : ℝ) : EReal) := by
  rw [GRAM_ix2]
  simp only [← coe_sum]
  refine Finset.sum_congr rfl fun b _ => Finset.sum_congr rfl fun n _ => ?_
  unfold aug
  rw [dif_pos l.isLt, dif_pos k.isLt, EReal.coe_mul, ← hx, ← hx]

include hx in
/-- The product of a ones row with one of the input's rows. -/
theorem GRAM_ones (k : Fin 128) :
    GRAM x (ix2 128 ⟨k.val, by omega⟩) = ((∑ b, ∑ n, xr b k n : ℝ) : EReal) := by
  rw [GRAM_ix2]
  simp only [← coe_sum]
  refine Finset.sum_congr rfl fun b _ => Finset.sum_congr rfl fun n _ => ?_
  unfold aug
  rw [dif_neg (by decide), dif_pos k.isLt, one_mul, ← hx]

include hx hW in
/-- The linear part of the mean. -/
theorem fWm_real (o : Fin 128) : fWm (GRAM x) W (ix1 o) = ((rmean (rz xr (Wr o)) : ℝ) : EReal) := by
  rw [fWm_apply]
  simp only [GRAM_ones x xr hx, hW, npts_eq, div_real _ _ M_ne, ← EReal.coe_mul, coe_sum]
  congr 1
  unfold rmean
  rw [sum_rz, Finset.sum_div]
  exact Finset.sum_congr rfl fun k _ => (mul_div_assoc _ _ _).symm

include hx hW in
/-- The mean square of the linear part. -/
theorem fQ_real (o : Fin 128) : fQ (GRAM x) W (ix1 o) = (((∑ b, ∑ n, rz xr (Wr o) b n * rz xr (Wr o) b n) / RealMath.M : ℝ) : EReal) := by
  rw [fQ_apply]
  simp only [GRAM_rows x xr hx, hW, npts_eq, ← EReal.coe_mul, coe_sum]
  rw [div_real _ _ M_ne, sum_rz_sq]

include hx hW hb in
/-- The variance. -/
theorem fVar_real (o : Fin 128) : fVar (GRAM x) W bias (ix1 o) = ((rvar (fun b n => rz xr (Wr o) b n + br o) : ℝ) : EReal) := by
  rw [fVar_apply, fQ_real x W xr Wr hx hW, fWm_real x W xr Wr hx hW, hb, Cert.Consts.two_f32]
  simp only [← EReal.coe_mul, ← EReal.coe_add, ← EReal.coe_sub]
  rw [rvar_eq]

include hx hW hb hg in
/-- The factor. -/
theorem fScale_real (e : ℝ) (he : 0 < e) (hE : eps5 = ((e : ℝ) : EReal)) (o : Fin 128) :
    fScale (GRAM x) W bias g (ix1 o)
      = ((gr o / Real.sqrt (rvar (fun b n => rz xr (Wr o) b n + br o) + e) : ℝ) : EReal) := by
  have hp : 0 < rvar (fun b n => rz xr (Wr o) b n + br o) + e := add_pos_of_nonneg_of_pos (rvar_nonneg _) he
  rw [fScale_apply, fVar_real x W bias xr Wr br hx hW hb, hg, hE, ← EReal.coe_add, sqrt_real _ hp.le,
    div_real _ _ (Real.sqrt_pos.2 hp).ne']

/-- A sum over 136 rows whose last seven terms vanish. -/
theorem sum_136 (f : Fin 136 → EReal) (h : ∀ k : Fin 136, 128 < k.val → f k = 0) :
    (∑ k, f k) = (∑ k : Fin 128, f ⟨k.val, by omega⟩) + f 128 := by
  refine (Fin.sum_univ_add (a := 128) (b := 8) f).trans (congrArg₂ (· + ·) rfl ?_)
  rw [Fin.sum_univ_succ, Finset.sum_eq_zero fun i _ => h _ (by show 128 < 128 + (i.val + 1); omega), add_zero]
  rfl

include hx hW hb hg in
/-- The kernel's layer: the normalised channel of the real linear part, the shift left as it is. -/
theorem KL_real (be : Vec Ideal S128 .f32) (e : ℝ) (he : 0 < e) (hE : eps5 = ((e : ℝ) : EReal)) (b : Fin 4) (o : Fin 128) (n : Fin 8192) :
    KL x W bias g be (ix3 b o n)
      = max (((gr o * ((rz xr (Wr o) b n + br o - rmean (fun b n => rz xr (Wr o) b n + br o))
          / Real.sqrt (rvar (fun b n => rz xr (Wr o) b n + br o) + e)) : ℝ) : EReal) + be (ix1 o)) 0 := by
  have hsum : (∑ k : Fin 136, foldV (GRAM x) W bias g be (ix2 o k) * (if h : k.val < 128 then x (ix3 b ⟨k.val, h⟩ n) else 1))
      = ((gr o * ((rz xr (Wr o) b n + br o - rmean (fun b n => rz xr (Wr o) b n + br o))
          / Real.sqrt (rvar (fun b n => rz xr (Wr o) b n + br o) + e)) : ℝ) : EReal) + be (ix1 o) := by
    rw [sum_136 _ fun k hk => by
      rw [foldV_apply, dif_neg (by omega), if_neg (by omega), zero_mul]]
    have h1 : ∀ k : Fin 128, foldV (GRAM x) W bias g be (ix2 o ⟨k.val, by omega⟩)
          * (if h : k.val < 128 then x (ix3 b ⟨k.val, h⟩ n) else 1)
        = ((gr o / Real.sqrt (rvar (fun b n => rz xr (Wr o) b n + br o) + e) * Wr o k * xr b k n : ℝ) : EReal) := fun k => by
      rw [foldV_apply, dif_pos k.isLt, dif_pos k.isLt, fScale_real x W bias g xr Wr br gr hx hW hb hg e he hE, hW, hx,
        ← EReal.coe_mul, ← EReal.coe_mul]
    have h2 : foldV (GRAM x) W bias g be (ix2 o 128) * (if h : (128 : Fin 136).val < 128 then x (ix3 b ⟨(128 : Fin 136).val, h⟩ n) else 1)
        = ((gr o / Real.sqrt (rvar (fun b n => rz xr (Wr o) b n + br o) + e) * (br o - (rmean (rz xr (Wr o)) + br o)) : ℝ) : EReal)
          + be (ix1 o) := by
      rw [foldV_apply, dif_neg (by decide), if_pos (by decide), dif_neg (by decide), mul_one,
        fScale_real x W bias g xr Wr br gr hx hW hb hg e he hE, fWm_real x W xr Wr hx hW, hb,
        ← EReal.coe_add, ← EReal.coe_sub, ← EReal.coe_mul]
    refine (congrArg₂ (· + ·) (Finset.sum_congr rfl fun k _ => h1 k) h2).trans ?_
    rw [coe_sum, ← add_assoc, ← EReal.coe_add]
    congr 2
    rw [rmean_add]
    generalize Real.sqrt (rvar (fun b n => rz xr (Wr o) b n + br o) + e) = r
    have h3 : (∑ k, gr o / r * Wr o k * xr b k n) = gr o / r * rz xr (Wr o) b n := by
      unfold rz
      rw [Finset.mul_sum]
      exact Finset.sum_congr rfl fun k _ => by ring
    rw [h3]
    ring
  exact congrArg (fun z => max z (0 : EReal)) hsum

end

end Cert.KernelIdeal.Values

end
-- ==== Proof.RefLayer.lean ====
/- The reference's layers at an index: a channel-mixing product plus a bias, normalised over all points. -/
module

public import proofs.«01_k».proof.Proof.Gen.ReferenceIdeal.Read
public import Idealize.ShloMosaic.Lib.ValueIdx
public import Idealize.ShloMosaic.Lib.Pointwise
public import proofs.«01_k».proof.Proof.Consts

@[expose] public section

set_option maxRecDepth 16384

noncomputable section

namespace Cert.ReferenceIdeal.Values

open Idealize.ShloMosaic Idealize.ShloMosaic.TcCoe Idealize.ShloMosaic.Tactic
open Cert.ReferenceIdeal Cert.ReferenceIdeal.Gen Cert.ReferenceIdeal.Read

/-- A sum over batches and points, at a channel. -/
theorem sum_points (y : FVec Ideal S4x128x8192 .f32) (e : EReal) (o : Fin 128) :
    Ideal.hostReduceAdd reducesTo_S4x128x8192_S128_d0_2 y e (ix1 o) = e + ∑ b : Fin 4, ∑ n : Fin 8192, y (ix3 b o n) := by
  unfold Ideal.hostReduceAdd
  have hd : ∀ i : S4x128x8192.Idx, (reducesTo_S4x128x8192_S128_d0_2).drop i = ix1 (i 1) := fun i =>
    funext fun a => Fin.ext (by match a with | ⟨0, _⟩ => rfl)
  congr 1
  rw [← Finset.sum_product']
  refine Finset.sum_nbij' (fun i => ((i 0 : Fin 4), (i 2 : Fin 8192))) (fun p => ix3 p.1 o p.2) ?_ ?_ ?_ ?_ ?_
  · intro i _; simp
  · intro p _
    rw [Finset.mem_filter]
    exact ⟨Finset.mem_univ _, (hd _).trans rfl⟩
  · intro i hi
    have h1 : i 1 = o := by
      have h := (hd i).symm.trans (Finset.mem_filter.1 hi).2
      exact congrFun h 0
    funext a
    match a with
    | ⟨0, _⟩ => rfl
    | ⟨1, _⟩ => exact h1.symm
    | ⟨2, _⟩ => rfl
  · intro p _; rfl
  · intro i hi
    have h1 : i 1 = o := by
      have h := (hd i).symm.trans (Finset.mem_filter.1 hi).2
      exact congrFun h 0
    congr 1
    funext a
    match a with
    | ⟨0, _⟩ => rfl
    | ⟨1, _⟩ => exact h1
    | ⟨2, _⟩ => rfl

/-- The number of points as printed. -/
def npts : EReal := Ideal.ofBits .f32 0x47000000#32
/-- The small number added to a variance as printed. -/
def eps5 : EReal := Ideal.ofBits .f32 0x3727C5AC#32

/-- A mean over all points. -/
def pmean (y : Fin 4 → Fin 8192 → EReal) : EReal := Ideal.div (∑ b, ∑ n, y b n) npts

/-- The mean of the squares about the mean. -/
def pvar (y : Fin 4 → Fin 8192 → EReal) : EReal := pmean fun b n => (y b n - pmean y) * (y b n - pmean y)

/-- One channel normalised, scaled, shifted and rectified. -/
def pnorm (y : Fin 4 → Fin 8192 → EReal) (g be : EReal) (b : Fin 4) (n : Fin 8192) : EReal :=
  max (g * Ideal.div (y b n - pmean y) (Ideal.sqrt (pvar y + eps5)) + be) 0

/-- A channel before normalisation. -/
def lin (x : FVec Ideal S4x128x8192 .f32) (W : FVec Ideal S128x128 .f32) (bias : FVec Ideal S128 .f32) (o : Fin 128)
    (b : Fin 4) (n : Fin 8192) : EReal := (∑ k : Fin 128, x (ix3 b k n) * W (ix2 o k)) + bias (ix1 o)

/-- The printed zero. -/
theorem zero_S (i : S_.Idx) : constant (F := Ideal) S_ .f32 0x00000000#32 i = 0 := Ideal.ofBits_zero_f32

/-- The number of points is positive. -/
theorem ogt_npts (a b : EReal) (ha : a = npts) (hb : b = 0) : Ideal.cmp .ogt a b = 1#1 := by
  subst ha hb
  unfold npts
  rw [Cert.Consts.points_f32]
  have h : (0 : EReal) < ((32768 : ℝ) : EReal) := by exact_mod_cast (by norm_num : (0:ℝ) < 32768)
  simp [Ideal.cmp, h]

variable (x0 : FVec Ideal S4x3x8192 .f32) (x1 : FVec Ideal S4x3x2048 .f32) (x2 : FVec Ideal S4x64x8192 .f32)
  (x3 : FVec Ideal S4x64x2048 .f32) (x4 : FVec Ideal S128x128 .f32) (x5 x6 x7 : FVec Ideal S128 .f32)
  (x8 : FVec Ideal S128x128 .f32) (x9 x10 x11 : FVec Ideal S128 .f32)

/-- The first layer before normalisation. -/
theorem v44_ix3 (b : Fin 4) (o : Fin 128) (n : Fin 8192) :
    val_main_v44 (F := Ideal) x0 x1 x2 x3 x4 x5 (ix3 b o n) = lin (val_main_v39 (F := Ideal) x0 x1 x2 x3) x4 x5 o b n := by
  unfold lin val_main_v44 val_main_v43 val_main_v42 val_main_v41 val_main_v40
  generalize val_main_v39 (F := Ideal) x0 x1 x2 x3 = x
  pointwise

/-- The mean of the first layer. -/
theorem v48_ix3 (a c : Fin 1) (o : Fin 128) :
    val_main_v48 (F := Ideal) x0 x1 x2 x3 x4 x5 (ix3 a o c)
      = pmean fun b n => val_main_v44 (F := Ideal) x0 x1 x2 x3 x4 x5 (ix3 b o n) := by
  unfold pmean npts val_main_v48 val_main_v47 val_main_v46 val_main_cst_8
  have h : val_main_v45 (F := Ideal) x0 x1 x2 x3 x4 x5 (ix1 o)
      = ∑ b : Fin 4, ∑ n : Fin 8192, val_main_v44 (F := Ideal) x0 x1 x2 x3 x4 x5 (ix3 b o n) := by
    unfold val_main_v45 val_main_cst_7
    generalize val_main_v44 (F := Ideal) x0 x1 x2 x3 x4 x5 = y
    refine (sum_points y _ o).trans ?_
    rw [zero_S, zero_add]
  rw [← h]
  generalize val_main_v45 (F := Ideal) x0 x1 x2 x3 x4 x5 = s
  pointwise

/-- The mean of the first layer as its variance uses it. -/
theorem call0_v3_ix3 (a c : Fin 1) (o : Fin 128) :
    val_main_call0_v3 (F := Ideal) x0 x1 x2 x3 x4 x5 (ix3 a o c)
      = pmean fun b n => val_main_v44 (F := Ideal) x0 x1 x2 x3 x4 x5 (ix3 b o n) := by
  unfold pmean npts val_main_call0_v3 val_main_call0_v2 val_main_call0_v1 val_main_call0_cst_0
  have h : val_main_call0_v0 (F := Ideal) x0 x1 x2 x3 x4 x5 (ix1 o)
      = ∑ b : Fin 4, ∑ n : Fin 8192, val_main_v44 (F := Ideal) x0 x1 x2 x3 x4 x5 (ix3 b o n) := by
    unfold val_main_call0_v0 val_main_call0_cst
    generalize val_main_v44 (F := Ideal) x0 x1 x2 x3 x4 x5 = y
    refine (sum_points y _ o).trans ?_
    rw [zero_S, zero_add]
  rw [← h]
  generalize val_main_call0_v0 (F := Ideal) x0 x1 x2 x3 x4 x5 = s
  pointwise

/-- The squares about the mean in the first layer. -/
theorem call0_v6_ix3 (b : Fin 4) (o : Fin 128) (n : Fin 8192) :
    val_main_call0_v6 (F := Ideal) x0 x1 x2 x3 x4 x5 (ix3 b o n)
      = (val_main_v44 (F := Ideal) x0 x1 x2 x3 x4 x5 (ix3 b o n) - val_main_call0_v3 (F := Ideal) x0 x1 x2 x3 x4 x5 (ix3 0 o 0))
        * (val_main_v44 (F := Ideal) x0 x1 x2 x3 x4 x5 (ix3 b o n) - val_main_call0_v3 (F := Ideal) x0 x1 x2 x3 x4 x5 (ix3 0 o 0)) := by
  unfold val_main_call0_v6 val_main_call0_v5 val_main_call0_v4
  generalize val_main_v44 (F := Ideal) x0 x1 x2 x3 x4 x5 = y
  generalize val_main_call0_v3 (F := Ideal) x0 x1 x2 x3 x4 x5 = mu
  pointwise

set_option maxHeartbeats 1600000 in
/-- The variance of the first layer. -/
theorem v49_ix3 (a c : Fin 1) (o : Fin 128) :
    val_main_v49 (F := Ideal) x0 x1 x2 x3 x4 x5 (ix3 a o c)
      = pvar fun b n => val_main_v44 (F := Ideal) x0 x1 x2 x3 x4 x5 (ix3 b o n) := by
  have h : val_main_call0_v9 (F := Ideal) x0 x1 x2 x3 x4 x5 (ix1 o)
      = ∑ b : Fin 4, ∑ n : Fin 8192, val_main_call0_v6 (F := Ideal) x0 x1 x2 x3 x4 x5 (ix3 b o n) := by
    unfold val_main_call0_v9 val_main_call0_cst_2
    generalize val_main_call0_v6 (F := Ideal) x0 x1 x2 x3 x4 x5 = y
    refine (sum_points y _ o).trans ?_
    rw [zero_S, zero_add]
  have h8 : ∀ i, val_main_call0_v8 (F := Ideal) i = npts := fun i => by
    unfold val_main_call0_v8 val_main_call0_cst_1 val_main_call0_v7 val_main_c_9 npts
    have hz : ((↑((0#32 : BitVec 32).toInt) : ℝ) : EReal) = 0 := by simp
    refine (congrArg (fun z : EReal => Ideal.ofBits .f32 0x47000000#32 - z) hz).trans ?_
    rw [sub_zero]
  have h13 : ∀ i, val_main_call0_v13 (F := Ideal) i = 1#1 := fun i => by
    unfold val_main_call0_v13 val_main_call0_cst_3
    exact ogt_npts _ _ (h8 i) (zero_S i)
  have h12 : val_main_call0_v12 (F := Ideal) x0 x1 x2 x3 x4 x5 (ix3 a o c) = Ideal.div (val_main_call0_v9 (F := Ideal) x0 x1 x2 x3 x4 x5 (ix1 o)) npts := by
    unfold val_main_call0_v12 val_main_call0_v11 val_main_call0_v10
    generalize val_main_call0_v9 (F := Ideal) x0 x1 x2 x3 x4 x5 = s
    have h8' : val_main_call0_v8 (F := Ideal) = fun _ => npts := funext h8
    rw [h8']
    pointwise
  have hs : val_main_v49 (F := Ideal) x0 x1 x2 x3 x4 x5 (ix3 a o c) = val_main_call0_v12 (F := Ideal) x0 x1 x2 x3 x4 x5 (ix3 a o c) := by
    unfold val_main_v49
    have h13' : val_main_call0_v13 (F := Ideal) = fun _ => 1#1 := funext h13
    rw [h13']
    rfl
  rw [hs, h12, h]
  unfold pvar
  conv_rhs => unfold pmean
  congr 1
  refine Finset.sum_congr rfl fun b _ => Finset.sum_congr rfl fun n _ => ?_
  rw [call0_v6_ix3, call0_v3_ix3]
  rfl

/-- The first layer's output. -/
theorem v63_ix3 (b : Fin 4) (o : Fin 128) (n : Fin 8192) :
    val_main_v63 (F := Ideal) x0 x1 x2 x3 x4 x5 x6 x7 (ix3 b o n)
      = pnorm (lin (val_main_v39 (F := Ideal) x0 x1 x2 x3) x4 x5 o) (x6 (ix1 o)) (x7 (ix1 o)) b n := by
  have e : (lin (val_main_v39 (F := Ideal) x0 x1 x2 x3) x4 x5 o)
      = fun b n => val_main_v44 (F := Ideal) x0 x1 x2 x3 x4 x5 (ix3 b o n) := funext fun b => funext fun n => (v44_ix3 x0 x1 x2 x3 x4 x5 b o n).symm
  rw [e]
  unfold pnorm
  rw [← v49_ix3 x0 x1 x2 x3 x4 x5 0 0 o, ← v48_ix3 x0 x1 x2 x3 x4 x5 0 0 o]
  unfold eps5 val_main_v63 val_main_call1_v0 val_main_call1_cst val_main_v62 val_main_v61 val_main_v60 val_main_v59 val_main_v58 val_main_v57 val_main_v56
    val_main_v55 val_main_v54 val_main_v53 val_main_v52 val_main_v51 val_main_v50 val_main_cst_10
  generalize val_main_v44 (F := Ideal) x0 x1 x2 x3 x4 x5 = y
  generalize val_main_v49 (F := Ideal) x0 x1 x2 x3 x4 x5 = va
  generalize val_main_v48 (F := Ideal) x0 x1 x2 x3 x4 x5 = mu
  pointwise

/-- The second layer before normalisation. -/
theorem v68_ix3 (b : Fin 4) (o : Fin 128) (n : Fin 8192) :
    val_main_v68 (F := Ideal) x0 x1 x2 x3 x4 x5 x6 x7 x8 x9 (ix3 b o n) = lin (val_main_v63 (F := Ideal) x0 x1 x2 x3 x4 x5 x6 x7) x8 x9 o b n := by
  unfold lin val_main_v68 val_main_v67 val_main_v66 val_main_v65 val_main_v64
  generalize val_main_v63 (F := Ideal) x0 x1 x2 x3 x4 x5 x6 x7 = x
  pointwise

/-- The mean of the second layer. -/
theorem v72_ix3 (a c : Fin 1) (o : Fin 128) :
    val_main_v72 (F := Ideal) x0 x1 x2 x3 x4 x5 x6 x7 x8 x9 (ix3 a o c)
      = pmean fun b n => val_main_v68 (F := Ideal) x0 x1 x2 x3 x4 x5 x6 x7 x8 x9 (ix3 b o n) := by
  unfold pmean npts val_main_v72 val_main_v71 val_main_v70 val_main_cst_12
  have h : val_main_v69 (F := Ideal) x0 x1 x2 x3 x4 x5 x6 x7 x8 x9 (ix1 o)
      = ∑ b : Fin 4, ∑ n : Fin 8192, val_main_v68 (F := Ideal) x0 x1 x2 x3 x4 x5 x6 x7 x8 x9 (ix3 b o n) := by
    unfold val_main_v69 val_main_cst_11
    generalize val_main_v68 (F := Ideal) x0 x1 x2 x3 x4 x5 x6 x7 x8 x9 = y
    refine (sum_points y _ o).trans ?_
    rw [zero_S, zero_add]
  rw [← h]
  generalize val_main_v69 (F := Ideal) x0 x1 x2 x3 x4 x5 x6 x7 x8 x9 = s
  pointwise

/-- The mean of the second layer as its variance uses it. -/
theorem call2_v3_ix3 (a c : Fin 1) (o : Fin 128) :
    val_main_call2_v3 (F := Ideal) x0 x1 x2 x3 x4 x5 x6 x7 x8 x9 (ix3 a o c)
      = pmean fun b n => val_main_v68 (F := Ideal) x0 x1 x2 x3 x4 x5 x6 x7 x8 x9 (ix3 b o n) := by
  unfold pmean npts val_main_call2_v3 val_main_call2_v2 val_main_call2_v1 val_main_call2_cst_0
  have h : val_main_call2_v0 (F := Ideal) x0 x1 x2 x3 x4 x5 x6 x7 x8 x9 (ix1 o)
      = ∑ b : Fin 4, ∑ n : Fin 8192, val_main_v68 (F := Ideal) x0 x1 x2 x3 x4 x5 x6 x7 x8 x9 (ix3 b o n) := by
    unfold val_main_call2_v0 val_main_call2_cst
    generalize val_main_v68 (F := Ideal) x0 x1 x2 x3 x4 x5 x6 x7 x8 x9 = y
    refine (sum_points y _ o).trans ?_
    rw [zero_S, zero_add]
  rw [← h]
  generalize val_main_call2_v0 (F := Ideal) x0 x1 x2 x3 x4 x5 x6 x7 x8 x9 = s
  pointwise

/-- The squares about the mean in the second layer. -/
theorem call2_v6_ix3 (b : Fin 4) (o : Fin 128) (n : Fin 8192) :
    val_main_call2_v6 (F := Ideal) x0 x1 x2 x3 x4 x5 x6 x7 x8 x9 (ix3 b o n)
      = (val_main_v68 (F := Ideal) x0 x1 x2 x3 x4 x5 x6 x7 x8 x9 (ix3 b o n) - val_main_call2_v3 (F := Ideal) x0 x1 x2 x3 x4 x5 x6 x7 x8 x9 (ix3 0 o 0))
        * (val_main_v68 (F := Ideal) x0 x1 x2 x3 x4 x5 x6 x7 x8 x9 (ix3 b o n) - val_main_call2_v3 (F := Ideal) x0 x1 x2 x3 x4 x5 x6 x7 x8 x9 (ix3 0 o 0)) := by
  unfold val_main_call2_v6 val_main_call2_v5 val_main_call2_v4
  generalize val_main_v68 (F := Ideal) x0 x1 x2 x3 x4 x5 x6 x7 x8 x9 = y
  generalize val_main_call2_v3 (F := Ideal) x0 x1 x2 x3 x4 x5 x6 x7 x8 x9 = mu
  pointwise

set_option maxHeartbeats 1600000 in
/-- The variance of the second layer. -/
theorem v73_ix3 (a c : Fin 1) (o : Fin 128) :
    val_main_v73 (F := Ideal) x0 x1 x2 x3 x4 x5 x6 x7 x8 x9 (ix3 a o c)
      = pvar fun b n => val_main_v68 (F := Ideal) x0 x1 x2 x3 x4 x5 x6 x7 x8 x9 (ix3 b o n) := by
  have h : val_main_call2_v9 (F := Ideal) x0 x1 x2 x3 x4 x5 x6 x7 x8 x9 (ix1 o)
      = ∑ b : Fin 4, ∑ n : Fin 8192, val_main_call2_v6 (F := Ideal) x0 x1 x2 x3 x4 x5 x6 x7 x8 x9 (ix3 b o n) := by
    unfold val_main_call2_v9 val_main_call2_cst_2
    generalize val_main_call2_v6 (F := Ideal) x0 x1 x2 x3 x4 x5 x6 x7 x8 x9 = y
    refine (sum_points y _ o).trans ?_
    rw [zero_S, zero_add]
  have h8 : ∀ i, val_main_call2_v8 (F := Ideal) i = npts := fun i => by
    unfold val_main_call2_v8 val_main_call2_cst_1 val_main_call2_v7 val_main_c_13 npts
    have hz : ((↑((0#32 : BitVec 32).toInt) : ℝ) : EReal) = 0 := by simp
    refine (congrArg (fun z : EReal => Ideal.ofBits .f32 0x47000000#32 - z) hz).trans ?_
    rw [sub_zero]
  have h13 : ∀ i, val_main_call2_v13 (F := Ideal) i = 1#1 := fun i => by
    unfold val_main_call2_v13 val_main_call2_cst_3
    exact ogt_npts _ _ (h8 i) (zero_S i)
  have h12 : val_main_call2_v12 (F := Ideal) x0 x1 x2 x3 x4 x5 x6 x7 x8 x9 (ix3 a o c) = Ideal.div (val_main_call2_v9 (F := Ideal) x0 x1 x2 x3 x4 x5 x6 x7 x8 x9 (ix1 o)) npts := by
    unfold val_main_call2_v12 val_main_call2_v11 val_main_call2_v10
    generalize val_main_call2_v9 (F := Ideal) x0 x1 x2 x3 x4 x5 x6 x7 x8 x9 = s
    have h8' : val_main_call2_v8 (F := Ideal) = fun _ => npts := funext h8
    rw [h8']
    pointwise
  have hs : val_main_v73 (F := Ideal) x0 x1 x2 x3 x4 x5 x6 x7 x8 x9 (ix3 a o c) = val_main_call2_v12 (F := Ideal) x0 x1 x2 x3 x4 x5 x6 x7 x8 x9 (ix3 a o c) := by
    unfold val_main_v73
    have h13' : val_main_call2_v13 (F := Ideal) = fun _ => 1#1 := funext h13
    rw [h13']
    rfl
  rw [hs, h12, h]
  unfold pvar
  conv_rhs => unfold pmean
  congr 1
  refine Finset.sum_congr rfl fun b _ => Finset.sum_congr rfl fun n _ => ?_
  rw [call2_v6_ix3, call2_v3_ix3]
  rfl

/-- The second layer's output. -/
theorem v87_ix3 (b : Fin 4) (o : Fin 128) (n : Fin 8192) :
    val_main_v87 (F := Ideal) x0 x1 x2 x3 x4 x5 x6 x7 x8 x9 x10 x11 (ix3 b o n)
      = pnorm (lin (val_main_v63 (F := Ideal) x0 x1 x2 x3 x4 x5 x6 x7) x8 x9 o) (x10 (ix1 o)) (x11 (ix1 o)) b n := by
  have e : (lin (val_main_v63 (F := Ideal) x0 x1 x2 x3 x4 x5 x6 x7) x8 x9 o)
      = fun b n => val_main_v68 (F := Ideal) x0 x1 x2 x3 x4 x5 x6 x7 x8 x9 (ix3 b o n) := funext fun b => funext fun n => (v68_ix3 x0 x1 x2 x3 x4 x5 x6 x7 x8 x9 b o n).symm
  rw [e]
  unfold pnorm
  rw [← v73_ix3 x0 x1 x2 x3 x4 x5 x6 x7 x8 x9 0 0 o, ← v72_ix3 x0 x1 x2 x3 x4 x5 x6 x7 x8 x9 0 0 o]
  unfold eps5 val_main_v87 val_main_call3_v0 val_main_call3_cst val_main_v86 val_main_v85 val_main_v84 val_main_v83 val_main_v82 val_main_v81 val_main_v80
    val_main_v79 val_main_v78 val_main_v77 val_main_v76 val_main_v75 val_main_v74 val_main_cst_14
  generalize val_main_v68 (F := Ideal) x0 x1 x2 x3 x4 x5 x6 x7 x8 x9 = y
  generalize val_main_v73 (F := Ideal) x0 x1 x2 x3 x4 x5 x6 x7 x8 x9 = va
  generalize val_main_v72 (F := Ideal) x0 x1 x2 x3 x4 x5 x6 x7 x8 x9 = mu
  pointwise

end Cert.ReferenceIdeal.Values

end
-- ==== Proof.RefReal.lean ====
/- The reference's layer at real inputs. -/
module

public import proofs.«01_k».proof.Proof.RefLayer
public import proofs.«01_k».proof.Proof.RealMath

@[expose] public section

set_option maxRecDepth 16384

noncomputable section

namespace Cert.ReferenceIdeal.Values

open Idealize.ShloMosaic Idealize.ShloMosaic.TcCoe Idealize.ShloMosaic.Tactic
open Cert.ReferenceIdeal Cert.ReferenceIdeal.Gen RealMath

/-- The number of points is the real one. -/
theorem npts_eq : npts = ((M : ℝ) : EReal) := Cert.Consts.points_f32

/-- The mean of real values. -/
theorem pmean_real (y : Fin 4 → Fin 8192 → ℝ) : pmean (fun b n => ((y b n : ℝ) : EReal)) = ((rmean y : ℝ) : EReal) := by
  unfold pmean rmean
  simp only [coe_sum]
  rw [npts_eq, div_real _ _ M_ne]

/-- The variance of real values. -/
theorem pvar_real (y : Fin 4 → Fin 8192 → ℝ) : pvar (fun b n => ((y b n : ℝ) : EReal)) = ((rvar y : ℝ) : EReal) := by
  unfold pvar rvar
  rw [pmean_real]
  simp only [← EReal.coe_sub, ← EReal.coe_mul]
  rw [pmean_real]

/-- A normalised channel of real values, its shift left as it is. -/
theorem pnorm_real (y : Fin 4 → Fin 8192 → ℝ) (g e : ℝ) (be : EReal) (he : 0 < e) (hE : eps5 = ((e : ℝ) : EReal)) (b : Fin 4) (n : Fin 8192) :
    pnorm (fun b n => ((y b n : ℝ) : EReal)) (g : EReal) be b n
      = max (((g * ((y b n - rmean y) / Real.sqrt (rvar y + e)) : ℝ) : EReal) + be) 0 := by
  have hp : 0 < rvar y + e := add_pos_of_nonneg_of_pos (rvar_nonneg y) he
  unfold pnorm
  rw [pmean_real, pvar_real, hE, ← EReal.coe_add, sqrt_real _ hp.le, ← EReal.coe_sub,
    div_real _ _ (Real.sqrt_pos.2 hp).ne', ← EReal.coe_mul]

/-- A channel before normalisation at real inputs. -/
theorem lin_real (x : FVec Ideal S4x128x8192 .f32) (W : FVec Ideal S128x128 .f32) (bias : FVec Ideal S128 .f32)
    (xr : Fin 4 → Fin 128 → Fin 8192 → ℝ) (Wr : Fin 128 → Fin 128 → ℝ) (br : Fin 128 → ℝ)
    (hx : ∀ b k n, x (ix3 b k n) = ((xr b k n : ℝ) : EReal)) (hW : ∀ o k, W (ix2 o k) = ((Wr o k : ℝ) : EReal))
    (hb : ∀ o, bias (ix1 o) = ((br o : ℝ) : EReal)) (o : Fin 128) :
    lin x W bias o = fun b n => ((rz xr (Wr o) b n + br o : ℝ) : EReal) := by
  funext b n
  unfold lin rz
  simp only [hx, hW, hb, ← EReal.coe_mul, coe_sum, ← EReal.coe_add]

end Cert.ReferenceIdeal.Values

end
-- ==== Proof.Order.lean ====
/- The order of the nearest points: reading a top-k at an index, and the positions it picks. -/
module

public import proofs.«01_k».proof.Proof.Top3
public import Idealize.ShloMosaic.Lib.SortFacts
public import Idealize.ShloMosaic.Lib.ValueIdx
public import Idealize.ShloMosaic.Lib.Pointwise

@[expose] public section

set_option maxRecDepth 16384

noncomputable section

namespace Order

open Idealize.ShloMosaic Idealize.ShloMosaic.TcCoe Idealize.ShloMosaic.Tactic

/-- The source of each position when a family is put in decreasing order. -/
def ord {n : ℕ} (v : Fin n → EReal) : Fin n → Fin n :=
  sortedFrom fun k k' => (FloatOps.cmpfTotal (F := Ideal) (φ := .f32) .gt (v k) (v k')) == 1#1

/-- A position along the last axis. -/
theorem along_ix3 {B N S : ℕ} (b : Fin B) (n : Fin N) (k s : Fin S) :
    Shape.Idx.along (s := ⟨3, ![B, N, S]⟩) (ix3 b n k) (2 : Fin 3) s = ix3 b n s := by
  funext a
  match a with
  | ⟨0, _⟩ => exact Function.update_of_ne (show (0 : Fin 3) ≠ 2 by decide) _ _
  | ⟨1, _⟩ => exact Function.update_of_ne (show (1 : Fin 3) ≠ 2 by decide) _ _
  | ⟨2, _⟩ => exact Function.update_self (2 : Fin 3) _ _

/-- The values of a top-k along the last axis of a batch of rows. -/
theorem topK_fst {B N S K : ℕ} (hK : K ≤ S) (x : (⟨3, ![B, N, S]⟩ : Shape).Idx → EReal)
    (h : (⟨3, ![B, N, S]⟩ : Shape).Slices (fun _ => 0) ⟨3, ![B, N, K]⟩) (b : Fin B) (n : Fin N) (k : Fin K) :
    (Host.topK (⟨3, ![B, N, K]⟩ : Shape) 2 (FloatOps.cmpfTotal (F := Ideal) (φ := .f32) .gt) x h).1 (ix3 b n k)
      = x (ix3 b n (ord (fun s => x (ix3 b n s)) ⟨k.val, by omega⟩)) := by
  have hk : k.val < S := by omega
  have key : ∀ J : (⟨3, ![B, N, S]⟩ : Shape).Idx, J = ix3 b n (⟨k.val, hk⟩ : Fin S) →
      x (J.along (2 : Fin 3) (sortedFrom (fun k k' => FloatOps.cmpfTotal (F := Ideal) (φ := .f32) .gt (x (J.along (2 : Fin 3) k)) (x (J.along (2 : Fin 3) k')) == 1#1) (J 2)))
        = x (ix3 b n (ord (fun s => x (ix3 b n s)) ⟨k.val, by omega⟩)) := by
    rintro J rfl
    exact congrArg (fun A : Fin S → (⟨3, ![B, N, S]⟩ : Shape).Idx => x (A (sortedFrom (fun k k' => FloatOps.cmpfTotal (F := Ideal) (φ := .f32) .gt (x (A k)) (x (A k')) == 1#1)
      (⟨k.val, hk⟩ : Fin S)))) (funext fun s => along_ix3 b n ⟨k.val, hk⟩ s)
  refine key _ (funext fun a => Fin.ext ?_)
  match a with
  | ⟨0, _⟩ => exact Nat.zero_add _
  | ⟨1, _⟩ => exact Nat.zero_add _
  | ⟨2, _⟩ => exact Nat.zero_add _

/-- The positions of a top-k along the last axis of a batch of rows. -/
theorem topK_snd {B N S K : ℕ} (hK : K ≤ S) (x : (⟨3, ![B, N, S]⟩ : Shape).Idx → EReal)
    (h : (⟨3, ![B, N, S]⟩ : Shape).Slices (fun _ => 0) ⟨3, ![B, N, K]⟩) (b : Fin B) (n : Fin N) (k : Fin K) :
    (Host.topK (⟨3, ![B, N, K]⟩ : Shape) 2 (FloatOps.cmpfTotal (F := Ideal) (φ := .f32) .gt) x h).2 (ix3 b n k)
      = BitVec.ofNat 32 (ord (fun s => x (ix3 b n s)) ⟨k.val, by omega⟩).val := by
  have hk : k.val < S := by omega
  have key : ∀ J : (⟨3, ![B, N, S]⟩ : Shape).Idx, J = ix3 b n (⟨k.val, hk⟩ : Fin S) →
      iotaInDim (⟨3, ![B, N, S]⟩ : Shape) 32 (2 : Fin 3) (J.along (2 : Fin 3) (sortedFrom (fun k k' => FloatOps.cmpfTotal (F := Ideal) (φ := .f32) .gt (x (J.along (2 : Fin 3) k)) (x (J.along (2 : Fin 3) k')) == 1#1) (J 2)))
        = BitVec.ofNat 32 (ord (fun s => x (ix3 b n s)) ⟨k.val, by omega⟩).val := by
    rintro J rfl
    exact congrArg (fun A : Fin S → (⟨3, ![B, N, S]⟩ : Shape).Idx => iotaInDim (⟨3, ![B, N, S]⟩ : Shape) 32 (2 : Fin 3) (A (sortedFrom (fun k k' => FloatOps.cmpfTotal (F := Ideal) (φ := .f32) .gt (x (A k)) (x (A k')) == 1#1)
      (⟨k.val, hk⟩ : Fin S)))) (funext fun s => along_ix3 b n ⟨k.val, hk⟩ s)
  refine key _ (funext fun a => Fin.ext ?_)
  match a with
  | ⟨0, _⟩ => exact Nat.zero_add _
  | ⟨1, _⟩ => exact Nat.zero_add _
  | ⟨2, _⟩ => exact Nat.zero_add _

/-- The comparator reads as the order of the extended reals. -/
theorem gt_iff (a b : EReal) : ((FloatOps.cmpfTotal (F := Ideal) (φ := .f32) .gt a b) == 1#1) = true ↔ b < a := by
  show ((Ideal.cmp .ogt a b) == 1#1) = true ↔ b < a
  by_cases h : b < a <;> simp [Ideal.cmp, h]

/-- Different positions have different sources. -/
theorem ord_injective {n : ℕ} (v : Fin n → EReal) : Function.Injective (ord v) := sortedFrom_injective _

/-- Every source is at some position. -/
theorem ord_surjective {n : ℕ} (v : Fin n → EReal) : Function.Surjective (ord v) := sortedFrom_surjective _

/-- The values decrease along the order. -/
theorem ord_antitone {n : ℕ} (v : Fin n → EReal) : Antitone fun k => v (ord v k) := by
  intro i j hij
  rcases hij.lt_or_eq with h | rfl
  · have hf : ∀ a b : Fin n, ((FloatOps.cmpfTotal (F := Ideal) (φ := .f32) .gt (v a) (v b)) == 1#1) = false ↔ v a ≤ v b := fun a b => by
      rw [← Bool.not_eq_true, gt_iff, not_lt]
    have := sortedFrom_noInversion (fun k k' => (FloatOps.cmpfTotal (F := Ideal) (φ := .f32) .gt (v k) (v k')) == 1#1)
      (fun k k' => (FloatOps.cmpfTotal (F := Ideal) (φ := .f32) .gt (v k) (v k')) == 1#1)
      (fun a b hab => by
        rw [hf]; exact ((gt_iff _ _).1 hab).le)
      (fun a b hab => hab)
      (fun a b c hab hbc => by
        rw [hf] at hab hbc ⊢; exact hab.trans hbc) i j h
    rw [hf] at this
    exact this
  · exact le_rfl

/-- For distances: with the order of the negated values, the values increase. -/
theorem ord_neg_monotone {n : ℕ} (d : Fin n → EReal) : Monotone fun k => d (ord (fun s => -d s) k) := fun i j h =>
  EReal.neg_le_neg_iff.1 (ord_antitone (fun s => -d s) h)

/-- How many values lie below a threshold, along an increasing arrangement. -/
theorem count_iff {n : ℕ} (d : Fin n → EReal) (σ : Fin n → Fin n) (hσ : Function.Bijective σ)
    (hm : Monotone fun k => d (σ k)) (t : EReal) (k : Fin n) : d (σ k) < t ↔ k.val + 1 ≤ Top3.count d t := by
  have hc : Top3.count d t = (Finset.univ.filter fun k => d (σ k) < t).card := by
    unfold Top3.count
    rw [← Equiv.sum_comp (Equiv.ofBijective σ hσ), Finset.card_filter]
    rfl
  rw [hc]
  constructor
  · intro h
    have : (Finset.univ.filter fun j : Fin n => j ≤ k) ⊆ Finset.univ.filter fun k => d (σ k) < t := fun j hj => by
      rw [Finset.mem_filter] at hj ⊢
      exact ⟨hj.1, (hm hj.2).trans_lt h⟩
    refine le_trans (le_of_eq ?_) (Finset.card_le_card this)
    have : (Finset.univ.filter fun j : Fin n => j ≤ k) = Finset.Iic k := by ext j; simp
    rw [this, Fin.card_Iic]
  · intro h
    by_contra hk
    have : (Finset.univ.filter fun k => d (σ k) < t) ⊆ Finset.univ.filter fun j : Fin n => j < k := fun j hj => by
      rw [Finset.mem_filter] at hj ⊢
      refine ⟨hj.1, ?_⟩
      by_contra hjk
      exact hk ((hm (not_lt.1 hjk)).trans_lt hj.2)
    have h2 := Finset.card_le_card this
    have : (Finset.univ.filter fun j : Fin n => j < k) = Finset.Iio k := by ext j; simp
    rw [this, Fin.card_Iio] at h2
    omega

/-- The three smallest distances are the distances of the first three of the order. -/
theorem least_eq (d : Fin 2048 → EReal) :
    (Top3.least d).1 = d (ord (fun s => -d s) 0) ∧ (Top3.least d).2.1 = d (ord (fun s => -d s) 1)
      ∧ (Top3.least d).2.2 = d (ord (fun s => -d s) 2) := by
  have hb : Function.Bijective (ord fun s => -d s) := ⟨ord_injective _, ord_surjective _⟩
  have h := Top3.eq_least (f := d) (a := d (ord (fun s => -d s) 0)) (b := d (ord (fun s => -d s) 1)) (c := d (ord (fun s => -d s) 2))
    (fun t => ⟨count_iff d _ hb (ord_neg_monotone d) t 0, count_iff d _ hb (ord_neg_monotone d) t 1, count_iff d _ hb (ord_neg_monotone d) t 2⟩)
  exact ⟨h.1.symm, h.2.1.symm, h.2.2.symm⟩

/-- With the fourth distance larger than the third, the points no farther than the third are the first three of the order,
    so a sum kept to them has three terms. -/
theorem sum_near (d : Fin 2048 → EReal) (hne : d (ord (fun s => -d s) 2) < d (ord (fun s => -d s) 3)) (F : Fin 2048 → EReal) :
    (∑ s, if d s ≤ (Top3.least d).2.2 then F s else 0)
      = F (ord (fun s => -d s) 0) + F (ord (fun s => -d s) 1) + F (ord (fun s => -d s) 2) := by
  have hb : Function.Bijective (ord fun s => -d s) := ⟨ord_injective _, ord_surjective _⟩
  have hm := ord_neg_monotone d
  rw [(least_eq d).2.2]
  generalize ord (fun s => -d s) = σ at *
  rw [← Equiv.sum_comp (Equiv.ofBijective σ hb)]
  have hi : ∀ k : Fin 2048, d (σ k) ≤ d (σ 2) ↔ k.val < 3 := fun k => by
    constructor
    · intro h
      by_contra hk
      have h3 : (3 : Fin 2048) ≤ k := by
        rw [Fin.le_def]; show 3 ≤ k.val; omega
      exact absurd (hne.trans_le ((hm h3).trans h)) (lt_irrefl _)
    · intro h
      exact hm (by rw [Fin.le_def]; show k.val ≤ 2; omega)
  show (∑ k : Fin 2048, if d (σ k) ≤ d (σ 2) then F (σ k) else 0) = _
  simp only [hi]
  rw [← Finset.sum_filter]
  have : (Finset.univ.filter fun k : Fin 2048 => k.val < 3) = {0, 1, 2} := by
    ext k
    simp only [Finset.mem_filter, Finset.mem_univ, true_and, Finset.mem_insert, Finset.mem_singleton, Fin.ext_iff]
    show k.val < 3 ↔ k.val = 0 ∨ k.val = 1 ∨ k.val = 2
    omega
  rw [this, Finset.sum_insert (by decide), Finset.sum_insert (by decide), Finset.sum_singleton, add_assoc]

end Order

end
-- ==== Proof.RefTop.lean ====
/- The reference's interpolated features at an index: the three nearest points' features weighted by the inverse distances. -/
module

public import proofs.«01_k».proof.Proof.Gen.ReferenceIdeal.Read
public import Idealize.ShloMosaic.Lib.ValueIdx
public import Idealize.ShloMosaic.Lib.Pointwise
public import Idealize.ShloMosaic.Lib.StableHlo.Predicate
public import proofs.«01_k».proof.Proof.Order

@[expose] public section

set_option maxRecDepth 16384

noncomputable section

namespace Cert.ReferenceIdeal.Values

open Idealize.ShloMosaic Idealize.ShloMosaic.TcCoe Idealize.ShloMosaic.Tactic
open Cert.ReferenceIdeal Cert.ReferenceIdeal.Gen Cert.ReferenceIdeal.Read

variable (x0 : FVec Ideal S4x3x8192 .f32) (x1 : FVec Ideal S4x3x2048 .f32) (x2 : FVec Ideal S4x64x8192 .f32)
  (x3 : FVec Ideal S4x64x2048 .f32)

/-- The squared distance of two points as the reference forms it. -/
def RD (b : Fin 4) (n : Fin 8192) (s : Fin 2048) : EReal :=
  ((∑ c : Fin 3, x0 (ix3 b c n) * x0 (ix3 b c n)) + ∑ c : Fin 3, x1 (ix3 b c s) * x1 (ix3 b c s))
    - Ideal.ofBits .f32 0x40000000#32 * ∑ c : Fin 3, x0 (ix3 b c n) * x1 (ix3 b c s)

/-- The negated distances. -/
theorem v16_ix3 (b : Fin 4) (n : Fin 8192) (s : Fin 2048) :
    val_main_v16 (F := Ideal) x0 x1 (ix3 b n s) = -RD x0 x1 b n s := by
  unfold RD val_main_v16 val_main_v15 val_main_v14 val_main_v13 val_main_v12 val_main_v11 val_main_v10 val_main_v9 val_main_v8
    val_main_v7 val_main_v6 val_main_v5 val_main_v4 val_main_v3 val_main_v1 val_main_v0 val_main_cst val_main_cst_0 val_main_cst_1
  pointwise

/-- The order of the points by distance. -/
def near (b : Fin 4) (n : Fin 8192) : Fin 2048 → Fin 2048 := Order.ord fun s => -RD x0 x1 b n s

/-- The row the top-k sorts. -/
theorem row (b : Fin 4) (n : Fin 8192) :
    (fun s : Fin 2048 => val_main_v16 (F := Ideal) x0 x1 (ix3 b n s)) = fun s => -RD x0 x1 b n s :=
  funext fun s => v16_ix3 x0 x1 b n s

/-- The picked distances. -/
theorem v17_ix3 (b : Fin 4) (n : Fin 8192) (k : Fin 3) :
    val_main_v17 (F := Ideal) x0 x1 (ix3 b n k) = RD x0 x1 b n (near x0 x1 b n ⟨k.val, by omega⟩) := by
  rw [val_main_v17_apply]
  unfold val_main_values
  rw [Order.topK_fst (by decide), row, v16_ix3]
  exact neg_neg _

/-- The picked positions. -/
theorem indices_ix3 (b : Fin 4) (n : Fin 8192) (k : Fin 3) :
    val_main_indices (F := Ideal) x0 x1 (ix3 b n k) = BitVec.ofNat 32 (near x0 x1 b n ⟨k.val, by omega⟩).val := by
  unfold val_main_indices
  rw [Order.topK_snd (by decide), row]
  rfl

/-- The positions as the gather reads them. -/
theorem v31_ix4 (b : Fin 4) (n : Fin 8192) (k : Fin 3) :
    val_main_v31 (F := Ideal) x0 x1 (ix4 b n k 0) = BitVec.ofNat 32 (near x0 x1 b n ⟨k.val, by omega⟩).val := by
  have h27 : val_main_v27 (F := Ideal) x0 x1 (ix3 b n k) = 0#1 := by
    rw [val_main_v27_apply, indices_ix3, val_main_v26_apply, val_main_c_apply]
    generalize near x0 x1 b n ⟨k.val, by omega⟩ = s
    have hs := s.isLt
    have h := (StableHlo.Predicate.slt_ofNat_iff s.val 0 (by omega) (by omega)).not.2 (Nat.not_lt_zero _)
    have h2 : ∀ t : Bool, BitVec.ofBool t ≠ 1#1 → BitVec.ofBool t = 0#1 := by decide
    exact h2 _ h
  have h30 : val_main_v30 (F := Ideal) x0 x1 (ix3 b n k) = val_main_indices (F := Ideal) x0 x1 (ix3 b n k) := by
    rw [val_main_v30_apply, h27]
    exact if_neg (by decide)
  have hi : idx_main_v31 (ix4 b n k 0) = ix3 b n k := by
    funext a
    match a with
    | ⟨0, _⟩ => rfl
    | ⟨1, _⟩ => rfl
    | ⟨2, _⟩ => rfl
  rw [val_main_v31_apply, hi, h30, indices_ix3]

/-- The gathered element. -/
theorem gather_ix4 (x : FVec Ideal S4x2048x64 .f32) (idx : IVec S4x8192x3x1 32) (b : Fin 4) (n : Fin 8192) (k : Fin 3) (c : Fin 64)
    (s : Fin 2048) (hs : idx (ix4 b n k 0) = BitVec.ofNat 32 s.val) :
    Host.gather gather_S4x2048x64_S4x8192x3x1_S4x8192x3x64_3_1_0_0_1_3_1164 x idx (ix4 b n k c) = x (ix3 b s c) := by
  unfold Host.gather
  congr 1
  funext a
  apply Fin.ext
  match a with
  | ⟨0, _⟩ => exact Nat.zero_add _
  | ⟨1, _⟩ =>
    have hi : gather_S4x2048x64_S4x8192x3x1_S4x8192x3x64_3_1_0_0_1_3_1164.siIdx (ix4 b n k c) ⟨0, by decide⟩ = ix4 b n k 0 := by
      funext a
      match a with
      | ⟨0, _⟩ => rfl
      | ⟨1, _⟩ => rfl
      | ⟨2, _⟩ => rfl
      | ⟨3, _⟩ => rfl
    have e : min (idx (gather_S4x2048x64_S4x8192x3x1_S4x8192x3x64_3_1_0_0_1_3_1164.siIdx (ix4 b n k c) ⟨0, by decide⟩)).toInt.toNat 2047 = s.val := by
      rw [hi, hs]
      have := s.isLt
      have h : (BitVec.ofNat 32 s.val).toInt = s.val := StableHlo.Predicate.toInt_ofNat_small _ (by omega)
      rw [h]; omega
    exact e
  | ⟨2, _⟩ => exact Nat.zero_add _

/-- The small number added to a distance as printed. -/
def eps8 : EReal := Ideal.ofBits .f32 0x322BCC77#32

/-- The inverse of a distance. -/
def inv (d : EReal) : EReal := Ideal.div 1 (d + eps8)

/-- The inverse distances of the picked points. -/
theorem v21_ix3 (b : Fin 4) (n : Fin 8192) (k : Fin 3) :
    val_main_v21 (F := Ideal) x0 x1 (ix3 b n k) = inv (RD x0 x1 b n (near x0 x1 b n ⟨k.val, by omega⟩)) := by
  rw [← v17_ix3]
  unfold inv eps8 val_main_v21 val_main_v20 val_main_v19 val_main_v18 val_main_cst_3 val_main_cst_2
  generalize val_main_v17 (F := Ideal) x0 x1 = d
  pointwise

/-- The sum of the inverse distances of the picked points. -/
theorem v22_ix2 (b : Fin 4) (n : Fin 8192) :
    val_main_v22 (F := Ideal) x0 x1 (ix2 b n) = ∑ k : Fin 3, inv (RD x0 x1 b n (near x0 x1 b n ⟨k.val, by omega⟩)) := by
  simp only [← v21_ix3]
  unfold val_main_v22 val_main_cst_4
  generalize val_main_v21 (F := Ideal) x0 x1 = w
  pointwise

/-- The interpolated features. -/
theorem v36_ix3 (b : Fin 4) (n : Fin 8192) (c : Fin 64) :
    val_main_v36 (F := Ideal) x0 x1 x3 (ix3 b n c)
      = ∑ k : Fin 3, x3 (ix3 b c (near x0 x1 b n ⟨k.val, by omega⟩))
          * Ideal.div (inv (RD x0 x1 b n (near x0 x1 b n ⟨k.val, by omega⟩)))
              (∑ k : Fin 3, inv (RD x0 x1 b n (near x0 x1 b n ⟨k.val, by omega⟩))) := by
  have h32 : ∀ k : Fin 3, val_main_v32 (F := Ideal) x0 x1 x3 (ix4 b n k c) = x3 (ix3 b c (near x0 x1 b n ⟨k.val, by omega⟩)) := fun k => by
    unfold val_main_v32
    rw [gather_ix4 _ _ b n k c _ (v31_ix4 x0 x1 b n k)]
    unfold val_main_v2
    pointwise
  rw [← v22_ix2]
  simp only [← v21_ix3, ← h32]
  unfold val_main_v36 val_main_cst_6 val_main_v35 val_main_v34 val_main_v33 val_main_v25 val_main_v24 val_main_v23
  generalize val_main_v32 (F := Ideal) x0 x1 x3 = p
  generalize val_main_v22 (F := Ideal) x0 x1 = s
  generalize val_main_v21 (F := Ideal) x0 x1 = w
  pointwise

/-- The layers' input. -/
theorem v39_ix3 (b : Fin 4) (o : Fin 128) (n : Fin 8192) :
    val_main_v39 (F := Ideal) x0 x1 x2 x3 (ix3 b o n)
      = if h : o.val < 64 then x2 (ix3 b ⟨o.val, h⟩ n) else val_main_v36 (F := Ideal) x0 x1 x3 (ix3 b n ⟨o.val - 64, by omega⟩) := by
  unfold val_main_v39 val_main_v38 val_main_v37
  generalize val_main_v36 (F := Ideal) x0 x1 x3 = p
  pointwise

end Cert.ReferenceIdeal.Values

end
-- ==== Proof.Features.lean ====
/- The features the layers start from: the kernel's masked sum is the reference's sum over the three nearest points. -/
module

public import proofs.«01_k».proof.Proof.KnnVal
public import proofs.«01_k».proof.Proof.RefTop
public import proofs.«01_k».proof.Proof.RealMath

@[expose] public section

set_option maxRecDepth 16384

noncomputable section

namespace Cert.Features

open Idealize.ShloMosaic Idealize.ShloMosaic.TcCoe Idealize.ShloMosaic.Tactic
open Cert.KernelIdeal.Values Cert.ReferenceIdeal.Values RealMath

/-- The two programs' distances agree. -/
theorem dist_eq (x0 : FVec Ideal ⟨3, ![4, 3, 8192]⟩ .f32) (x1 : FVec Ideal ⟨3, ![4, 3, 2048]⟩ .f32) (b : Fin 4) (n : Fin 8192) :
    KD x0 x1 b n = fun s => RD x0 x1 b n s := by
  funext s
  unfold KD RD two
  rw [add_comm]
  simp only [mul_comm (x1 _) (x0 _)]

/-- The squared distance of two points at real coordinates. -/
def rdist (a : Fin 3 → ℝ) (b : Fin 3 → ℝ) : ℝ := ∑ c, (a c - b c) * (a c - b c)

theorem rdist_nonneg (a b : Fin 3 → ℝ) : 0 ≤ rdist a b := Finset.sum_nonneg fun _ _ => mul_self_nonneg _

/-- The expanded form is the squared distance. -/
theorem RD_real (x0 : FVec Ideal ⟨3, ![4, 3, 8192]⟩ .f32) (x1 : FVec Ideal ⟨3, ![4, 3, 2048]⟩ .f32)
    (r0 : Fin 4 → Fin 3 → Fin 8192 → ℝ) (r1 : Fin 4 → Fin 3 → Fin 2048 → ℝ)
    (h0 : ∀ b c n, x0 (ix3 b c n) = ((r0 b c n : ℝ) : EReal)) (h1 : ∀ b c s, x1 (ix3 b c s) = ((r1 b c s : ℝ) : EReal))
    (b : Fin 4) (n : Fin 8192) (s : Fin 2048) :
    RD x0 x1 b n s = ((rdist (fun c => r0 b c n) (fun c => r1 b c s) : ℝ) : EReal) := by
  unfold RD rdist
  rw [Cert.Consts.two_f32]
  simp only [h0, h1, ← EReal.coe_mul, coe_sum, ← EReal.coe_add, ← EReal.coe_sub]
  congr 1
  simp only [Fin.sum_univ_three]
  ring

/-- One interpolated feature: both programs' forms are the same real number. -/
theorem interp_eq (d : Fin 2048 → EReal) (dr : Fin 2048 → ℝ) (hd : ∀ s, d s = ((dr s : ℝ) : EReal)) (h0 : ∀ s, 0 ≤ dr s)
    (f : Fin 2048 → EReal) (fr : Fin 2048 → ℝ) (hf : ∀ s, f s = ((fr s : ℝ) : EReal))
    (hne : d (Order.ord (fun s => -d s) 2) < d (Order.ord (fun s => -d s) 3)) :
    ∃ r : ℝ, KernelIdeal.Values.interp d f = (r : EReal) ∧
      (∑ k : Fin 3, f (Order.ord (fun s => -d s) ⟨k.val, by omega⟩)
          * Ideal.div (ReferenceIdeal.Values.inv (d (Order.ord (fun s => -d s) ⟨k.val, by omega⟩)))
              (∑ k : Fin 3, ReferenceIdeal.Values.inv (d (Order.ord (fun s => -d s) ⟨k.val, by omega⟩)))) = (r : EReal) := by
  obtain ⟨e, he, hE⟩ := Cert.Consts.eps8_f32
  have hp : ∀ s, 0 < dr s + e := fun s => add_pos_of_nonneg_of_pos (h0 s) he
  have hinv : ∀ s, ReferenceIdeal.Values.inv (d s) = ((1 / (dr s + e) : ℝ) : EReal) := fun s => by
    unfold ReferenceIdeal.Values.inv Cert.ReferenceIdeal.Values.eps8
    rw [hd, hE, ← EReal.coe_add, ← EReal.coe_one, div_real _ _ (hp s).ne']
  have hwt : ∀ s, wt (d s) = ((1 / (dr s + e) : ℝ) : EReal) := hinv
  have hm : ∀ s, f s * (if d s ≤ (Top3.least d).2.2 then wt (d s) else 0)
      = if d s ≤ (Top3.least d).2.2 then f s * wt (d s) else 0 := fun s => by
    split <;> simp
  obtain ⟨l1, l2, l3⟩ := Order.least_eq d
  have hI : KernelIdeal.Values.interp d f = (f (Order.ord (fun s => -d s) 0) * wt (d (Order.ord (fun s => -d s) 0))
      + f (Order.ord (fun s => -d s) 1) * wt (d (Order.ord (fun s => -d s) 1))
      + f (Order.ord (fun s => -d s) 2) * wt (d (Order.ord (fun s => -d s) 2)))
      * Ideal.div 1 (wt (d (Order.ord (fun s => -d s) 0)) + wt (d (Order.ord (fun s => -d s) 1)) + wt (d (Order.ord (fun s => -d s) 2))) := by
    unfold KernelIdeal.Values.interp
    simp only [hm]
    rw [Order.sum_near d hne (fun s => f s * wt (d s)), l1, l2, l3]
  rw [hI]
  have hs3 : ∀ F : Fin 3 → EReal, (∑ k, F k) = F 0 + F 1 + F 2 := fun F => Fin.sum_univ_three F
  rw [hs3, hs3]
  show ∃ r : ℝ, _ ∧ f (Order.ord (fun s => -d s) 0) * Ideal.div (ReferenceIdeal.Values.inv (d (Order.ord (fun s => -d s) 0)))
        (ReferenceIdeal.Values.inv (d (Order.ord (fun s => -d s) 0)) + ReferenceIdeal.Values.inv (d (Order.ord (fun s => -d s) 1)) + ReferenceIdeal.Values.inv (d (Order.ord (fun s => -d s) 2)))
      + f (Order.ord (fun s => -d s) 1) * Ideal.div (ReferenceIdeal.Values.inv (d (Order.ord (fun s => -d s) 1)))
        (ReferenceIdeal.Values.inv (d (Order.ord (fun s => -d s) 0)) + ReferenceIdeal.Values.inv (d (Order.ord (fun s => -d s) 1)) + ReferenceIdeal.Values.inv (d (Order.ord (fun s => -d s) 2)))
      + f (Order.ord (fun s => -d s) 2) * Ideal.div (ReferenceIdeal.Values.inv (d (Order.ord (fun s => -d s) 2)))
        (ReferenceIdeal.Values.inv (d (Order.ord (fun s => -d s) 0)) + ReferenceIdeal.Values.inv (d (Order.ord (fun s => -d s) 1)) + ReferenceIdeal.Values.inv (d (Order.ord (fun s => -d s) 2))) = (r : EReal)
  generalize Order.ord (fun s => -d s) 0 = i
  generalize Order.ord (fun s => -d s) 1 = j
  generalize Order.ord (fun s => -d s) 2 = k
  have ha : 0 < 1 / (dr i + e) := one_div_pos.2 (hp i)
  have hb : 0 < 1 / (dr j + e) := one_div_pos.2 (hp j)
  have hc : 0 < 1 / (dr k + e) := one_div_pos.2 (hp k)
  simp only [hwt, hinv, hf]
  generalize 1 / (dr i + e) = a at *
  generalize 1 / (dr j + e) = b at *
  generalize 1 / (dr k + e) = c at *
  have hs : a + b + c ≠ 0 := (add_pos (add_pos ha hb) hc).ne'
  simp only [← EReal.coe_one, ← EReal.coe_add, div_real _ _ hs, ← EReal.coe_mul]
  refine ⟨_, rfl, congrArg Real.toEReal ?_⟩
  ring

/-- The features of the two programs are the same real numbers. -/
theorem features_eq (x0 : FVec Ideal ⟨3, ![4, 3, 8192]⟩ .f32) (x1 : FVec Ideal ⟨3, ![4, 3, 2048]⟩ .f32)
    (x2 : FVec Ideal ⟨3, ![4, 64, 8192]⟩ .f32) (x3 : FVec Ideal ⟨3, ![4, 64, 2048]⟩ .f32)
    (r0 : Fin 4 → Fin 3 → Fin 8192 → ℝ) (r1 : Fin 4 → Fin 3 → Fin 2048 → ℝ)
    (r2 : Fin 4 → Fin 64 → Fin 8192 → ℝ) (r3 : Fin 4 → Fin 64 → Fin 2048 → ℝ)
    (h0 : ∀ b c n, x0 (ix3 b c n) = ((r0 b c n : ℝ) : EReal)) (h1 : ∀ b c s, x1 (ix3 b c s) = ((r1 b c s : ℝ) : EReal))
    (h2 : ∀ b c n, x2 (ix3 b c n) = ((r2 b c n : ℝ) : EReal)) (h3 : ∀ b c s, x3 (ix3 b c s) = ((r3 b c s : ℝ) : EReal))
    (hne : ∀ b n, RD x0 x1 b n (near x0 x1 b n 2) < RD x0 x1 b n (near x0 x1 b n 3)) (b : Fin 4) (o : Fin 128) (n : Fin 8192) :
    ∃ r : ℝ, KX x0 x1 x2 x3 (ix3 b o n) = (r : EReal)
      ∧ Cert.ReferenceIdeal.Read.val_main_v39 (F := Ideal) x0 x1 x2 x3 (ix3 b o n) = (r : EReal) := by
  rw [KX_ix3, v39_ix3]
  by_cases ho : o.val < 64
  · rw [dif_pos ho, dif_pos ho]
    exact ⟨_, h2 b _ n, h2 b _ n⟩
  · rw [dif_neg ho, dif_neg ho, v36_ix3, dist_eq]
    exact interp_eq _ _ (RD_real x0 x1 r0 r1 h0 h1 b n) (fun s => rdist_nonneg _ _) _ _ (h3 b _) (hne b n)

end Cert.Features

end
-- ==== Proof.Precond.lean ====
/- What the precondition says: every argument but the last is finite, and no point's third and fourth nearest distances tie. -/
module

public import proofs.«01_k».proof.Pre_tame
public import proofs.«01_k».proof.Proof.RefTop
public import proofs.«01_k».proof.Proof.Consts
public import Idealize.ShloMosaic.Lib.ReduceAll

@[expose] public section

set_option maxRecDepth 16384

noncomputable section

namespace Cert.Pre_tame

open Facts

open Idealize.ShloMosaic Idealize.ShloMosaic.TcCoe Idealize.ShloMosaic.Tactic

/-- The shape relations the precondition's operations state. -/
instance facts : Facts where
  bcast_S_S4x3x8192 := by decide
  reducesTo_S4x3x8192_S_d0_1_2 := by decide
  h_S_ := by decide
  bcast_S_S4x3x2048 := by decide
  reducesTo_S4x3x2048_S_d0_1_2 := by decide
  bcast_S_S4x64x8192 := by decide
  reducesTo_S4x64x8192_S_d0_1_2 := by decide
  bcast_S_S4x64x2048 := by decide
  reducesTo_S4x64x2048_S_d0_1_2 := by decide
  bcast_S_S128x128 := by decide
  reducesTo_S128x128_S_d0_1 := by decide
  bcast_S_S128 := by decide
  reducesTo_S128_S_d0 := by decide
  transposes_S4x3x8192_S4x8192x3_0_2_1 := by decide
  transposes_S4x3x2048_S4x2048x3_0_2_1 := by decide
  reducesTo_S4x8192x3_S4x8192_d2 := by decide
  bcast_S4x8192_S4x8192x1_0_1 := by decide
  reducesTo_S4x2048x3_S4x2048_d2 := by decide
  bcast_S4x2048_S4x1x2048_0_2 := by decide
  bcast_S4x8192x1_S4x8192x2048_0_1_2 := by decide
  bcast_S4x1x2048_S4x8192x2048_0_1_2 := by decide
  bcast_S_S4x8192x2048 := by decide
  sliceFits_S4x8192x2048_S4x8192x4 := by decide
  slices_S4x8192x4_S4x8192x1_0_0_2 := by decide
  shapeCasts_S4x8192x1_S4x8192 := by decide
  slices_S4x8192x4_S4x8192x1_0_0_3 := by decide
  reducesTo_S4x8192_S_d0_1 := by decide
  dot_S4x8192x3_S4x2048x3_S4x8192x2048_2_2_1_1_0_0_wf := by decide

/-- A conjunction of bits. -/
theorem andi_one (a b : IVec S_ 1) (h : andi a b = fun _ => 1#1) : (a = fun _ => 1#1) ∧ (b = fun _ => 1#1) := by
  have hb : ∀ p q : BitVec 1, IntOp.andi p q = 1#1 → p = 1#1 ∧ q = 1#1 := by decide
  exact ⟨funext fun i => (hb _ _ (congrFun h i)).1, funext fun i => (hb _ _ (congrFun h i)).2⟩

/-- An extended real of size below infinity is a real. -/
theorem real_of_abs (x : EReal) (h : Ideal.cmp .olt (max x (-x)) (Ideal.ofBits .f32 0x7F800000#32) = 1#1) :
    ∃ r : ℝ, x = (r : EReal) := by
  rw [Cert.Consts.top_f32] at h
  induction x with
  | bot => simp [Ideal.cmp] at h
  | top => simp [Ideal.cmp] at h
  | coe r => exact ⟨r, rfl⟩

/-- There is one index into an array of no axes. -/
instance : Subsingleton S_.Idx := ⟨fun a b => funext fun i => i.elim0⟩

/-- All the entries of an array tested finite are real. -/
theorem finite_all {s : Shape} {axes : List (Fin s.rank)} (hr : s.ReducesTo axes S_) (hb : S_.BroadcastsInDim s (![] : Fin 0 → Fin s.rank))
    (x : FVec Ideal s .f32)
    (h : Host.reduce IntOp.andi (cmpf .olt (Host.absf x) (broadcastInDim s ![] hb (constant (F := Ideal) S_ .f32 0x7F800000#32)))
      (constantI S_ 1 1#1) hr h_S_ = fun _ => 1#1) : ∃ r : s.Idx → ℝ, ∀ i, x i = ((r i : ℝ) : EReal) := by
  have h1 : ∀ i, ∃ r : ℝ, x i = (r : EReal) := fun i =>
    real_of_abs _ (Host.reduce_andi_all _ _ hr h_S_ _ (congrFun h (Shape.Idx.first h_S_)) i)
  exact ⟨fun i => (h1 i).choose, fun i => (h1 i).choose_spec⟩

/-- With the comparison of the third and fourth picks holding everywhere, the fourth value is below the third. -/
theorem tie_all (y : FVec Ideal S4x8192x2048 .f32)
    (h : Host.reduce IntOp.andi
      (cmpf .ogt
        (shapeCast S4x8192 (extractStridedSlice S4x8192x1 ![0, 0, 2]
          (Host.topK S4x8192x4 2 (FloatOps.cmpfTotal (F := Ideal) (φ := .f32) .gt) y sliceFits_S4x8192x2048_S4x8192x4).1 slices_S4x8192x4_S4x8192x1_0_0_2) shapeCasts_S4x8192x1_S4x8192 : FVec Ideal S4x8192 .f32)
        (shapeCast S4x8192 (extractStridedSlice S4x8192x1 ![0, 0, 3]
          (Host.topK S4x8192x4 2 (FloatOps.cmpfTotal (F := Ideal) (φ := .f32) .gt) y sliceFits_S4x8192x2048_S4x8192x4).1 slices_S4x8192x4_S4x8192x1_0_0_3) shapeCasts_S4x8192x1_S4x8192))
      (constantI S_ 1 1#1) reducesTo_S4x8192_S_d0_1 h_S_ = fun _ => 1#1) (b : Fin 4) (n : Fin 8192) :
    y (ix3 b n (Order.ord (fun s => y (ix3 b n s)) 3)) < y (ix3 b n (Order.ord (fun s => y (ix3 b n s)) 2)) := by
  have h1 := Host.reduce_andi_all _ _ reducesTo_S4x8192_S_d0_1 h_S_ _ (congrFun h (Shape.Idx.first h_S_)) (ix2 b n)
  have e2 := Order.topK_fst (K := 4) (by decide) y sliceFits_S4x8192x2048_S4x8192x4 b n 2
  have e3 := Order.topK_fst (K := 4) (by decide) y sliceFits_S4x8192x2048_S4x8192x4 b n 3
  have key : ∀ v : FVec Ideal S4x8192x4 .f32,
      cmpf .ogt
        (shapeCast S4x8192 (extractStridedSlice S4x8192x1 ![0, 0, 2] v slices_S4x8192x4_S4x8192x1_0_0_2) shapeCasts_S4x8192x1_S4x8192 : FVec Ideal S4x8192 .f32)
        (shapeCast S4x8192 (extractStridedSlice S4x8192x1 ![0, 0, 3] v slices_S4x8192x4_S4x8192x1_0_0_3) shapeCasts_S4x8192x1_S4x8192) (ix2 b n)
      = Ideal.cmp .ogt (v (ix3 b n 2)) (v (ix3 b n 3)) := fun v => by
    pointwise
  rw [key] at h1
  rw [e2, e3] at h1
  by_contra hc
  have : ¬ (y (ix3 b n (Order.ord (fun s => y (ix3 b n s)) 3)) < y (ix3 b n (Order.ord (fun s => y (ix3 b n s)) 2))) := hc
  simp only [Ideal.cmp] at h1
  have hd : BitVec.ofBool (decide (y (ix3 b n (Order.ord (fun s => y (ix3 b n s)) 3)) < y (ix3 b n (Order.ord (fun s => y (ix3 b n s)) 2)))) = 1#1 := h1
  rw [decide_eq_false this] at hd
  exact absurd hd (by decide)

/-- The precondition: arguments 0 to 10 are real, and every fourth distance exceeds the third. -/
theorem tame_iff (x0 : FVec Ideal S4x3x8192 .f32) (x1 : FVec Ideal S4x3x2048 .f32) (x2 : FVec Ideal S4x64x8192 .f32)
    (x3 : FVec Ideal S4x64x2048 .f32) (x4 : FVec Ideal S128x128 .f32) (x5 x6 x7 : FVec Ideal S128 .f32)
    (x8 : FVec Ideal S128x128 .f32) (x9 x10 x11 : FVec Ideal S128 .f32)
    (h : fn (F := Ideal) x0 x1 x2 x3 x4 x5 x6 x7 x8 x9 x10 x11 = fun _ => 1#1) :
    (∃ r : S4x3x8192.Idx → ℝ, ∀ i, x0 i = ((r i : ℝ) : EReal)) ∧ (∃ r : S4x3x2048.Idx → ℝ, ∀ i, x1 i = ((r i : ℝ) : EReal))
    ∧ (∃ r : S4x64x8192.Idx → ℝ, ∀ i, x2 i = ((r i : ℝ) : EReal)) ∧ (∃ r : S4x64x2048.Idx → ℝ, ∀ i, x3 i = ((r i : ℝ) : EReal))
    ∧ (∃ r : S128x128.Idx → ℝ, ∀ i, x4 i = ((r i : ℝ) : EReal)) ∧ (∃ r : S128.Idx → ℝ, ∀ i, x5 i = ((r i : ℝ) : EReal))
    ∧ (∃ r : S128.Idx → ℝ, ∀ i, x6 i = ((r i : ℝ) : EReal)) ∧ (∃ r : S128.Idx → ℝ, ∀ i, x7 i = ((r i : ℝ) : EReal))
    ∧ (∃ r : S128x128.Idx → ℝ, ∀ i, x8 i = ((r i : ℝ) : EReal)) ∧ (∃ r : S128.Idx → ℝ, ∀ i, x9 i = ((r i : ℝ) : EReal))
    ∧ (∃ r : S128.Idx → ℝ, ∀ i, x10 i = ((r i : ℝ) : EReal))
    ∧ ∀ b n, Cert.ReferenceIdeal.Values.RD x0 x1 b n (Cert.ReferenceIdeal.Values.near x0 x1 b n 2)
        < Cert.ReferenceIdeal.Values.RD x0 x1 b n (Cert.ReferenceIdeal.Values.near x0 x1 b n 3) := by
  unfold fn fn_part1 fn_part2 fn_part3 fn_part4 at h
  obtain ⟨h, h10⟩ := andi_one _ _ h
  obtain ⟨h, h9⟩ := andi_one _ _ h
  obtain ⟨h, h8⟩ := andi_one _ _ h
  obtain ⟨h, h7⟩ := andi_one _ _ h
  obtain ⟨h, h6⟩ := andi_one _ _ h
  obtain ⟨h, h5⟩ := andi_one _ _ h
  obtain ⟨h, h4⟩ := andi_one _ _ h
  obtain ⟨h, h3⟩ := andi_one _ _ h
  obtain ⟨h, h2⟩ := andi_one _ _ h
  obtain ⟨h, h1⟩ := andi_one _ _ h
  obtain ⟨h, h0⟩ := andi_one _ _ h
  refine ⟨finite_all _ _ _ h0, finite_all _ _ _ h1, finite_all _ _ _ h2, finite_all _ _ _ h3, finite_all _ _ _ h4, finite_all _ _ _ h5,
    finite_all _ _ _ h6, finite_all _ _ _ h7, finite_all _ _ _ h8, finite_all _ _ _ h9, finite_all _ _ _ h10, fun b n => ?_⟩
  have ht := tie_all (Cert.ReferenceIdeal.Read.val_main_v16 (F := Ideal) x0 x1) h b n
  rw [Cert.ReferenceIdeal.Values.row, Cert.ReferenceIdeal.Values.v16_ix3, Cert.ReferenceIdeal.Values.v16_ix3] at ht
  exact EReal.neg_lt_neg_iff.1 ht

end Cert.Pre_tame

end
-- ==== Proof.Equal.lean ====
/- The two programs' results are equal at every argument the precondition admits. -/
module

public import proofs.«01_k».proof.Proof.KerReal
public import proofs.«01_k».proof.Proof.RefReal
public import proofs.«01_k».proof.Proof.Features
public import proofs.«01_k».proof.Proof.Precond

@[expose] public section

set_option maxRecDepth 16384

noncomputable section

namespace Cert.Equal

open Idealize.ShloMosaic Idealize.ShloMosaic.TcCoe Idealize.ShloMosaic.Tactic RealMath

/-- The larger of two reals, as extended reals. -/
theorem max_real (a b : ℝ) : max (((a : ℝ) : EReal) + ((b : ℝ) : EReal)) 0 = ((max (a + b) 0 : ℝ) : EReal) := by
  rw [← EReal.coe_add, ← EReal.coe_zero]
  exact (EReal.coe_strictMono.monotone.map_max (a := a + b) (b := 0)).symm

/-- One layer: the kernel's folded form and the reference's normalised channel, on inputs holding the same real values. -/
theorem layer_eq (x x' : FVec Ideal ⟨3, ![4, 128, 8192]⟩ .f32) (W : FVec Ideal ⟨2, ![128, 128]⟩ .f32)
    (bias g be : FVec Ideal ⟨1, ![128]⟩ .f32)
    (xr : Fin 4 → Fin 128 → Fin 8192 → ℝ) (Wr : (⟨2, ![128, 128]⟩ : Shape).Idx → ℝ) (br gr : (⟨1, ![128]⟩ : Shape).Idx → ℝ)
    (hx : ∀ b k n, x (ix3 b k n) = ((xr b k n : ℝ) : EReal)) (hx' : ∀ b k n, x' (ix3 b k n) = ((xr b k n : ℝ) : EReal))
    (hW : ∀ i, W i = ((Wr i : ℝ) : EReal)) (hb : ∀ i, bias i = ((br i : ℝ) : EReal)) (hg : ∀ i, g i = ((gr i : ℝ) : EReal))
    (b : Fin 4) (o : Fin 128) (n : Fin 8192) :
    ∃ r : ℝ, Cert.KernelIdeal.Values.KL x W bias g be (ix3 b o n) = max (((r : ℝ) : EReal) + be (ix1 o)) 0
      ∧ Cert.ReferenceIdeal.Values.pnorm (Cert.ReferenceIdeal.Values.lin x' W bias o) (g (ix1 o)) (be (ix1 o)) b n
        = max (((r : ℝ) : EReal) + be (ix1 o)) 0 := by
  obtain ⟨e, he, hE⟩ := Cert.Consts.eps5_f32
  refine ⟨_, Cert.KernelIdeal.Values.KL_real x W bias g xr (fun o k => Wr (ix2 o k)) (fun o => br (ix1 o)) (fun o => gr (ix1 o))
    hx (fun o k => hW _) (fun o => hb _) (fun o => hg _) be e he hE b o n, ?_⟩
  rw [Cert.ReferenceIdeal.Values.lin_real x' W bias xr (fun o k => Wr (ix2 o k)) (fun o => br (ix1 o)) hx' (fun o k => hW _) (fun o => hb _) o,
    hg (ix1 o), Cert.ReferenceIdeal.Values.pnorm_real _ _ e _ he hE]

/-- The kernel's result is the reference's. -/
theorem value_eq (x0 : FVec Ideal ⟨3, ![4, 3, 8192]⟩ .f32) (x1 : FVec Ideal ⟨3, ![4, 3, 2048]⟩ .f32)
    (x2 : FVec Ideal ⟨3, ![4, 64, 8192]⟩ .f32) (x3 : FVec Ideal ⟨3, ![4, 64, 2048]⟩ .f32)
    (x4 : FVec Ideal ⟨2, ![128, 128]⟩ .f32) (x5 x6 x7 : FVec Ideal ⟨1, ![128]⟩ .f32)
    (x8 : FVec Ideal ⟨2, ![128, 128]⟩ .f32) (x9 x10 x11 : FVec Ideal ⟨1, ![128]⟩ .f32)
    (h : Cert.Pre_tame.fn (F := Ideal) x0 x1 x2 x3 x4 x5 x6 x7 x8 x9 x10 x11 = fun _ => 1#1) :
    Cert.KernelIdeal.Values.KL (Cert.KernelIdeal.Values.KL (Cert.KernelIdeal.Values.KX x0 x1 x2 x3) x4 x5 x6 x7) x8 x9 x10 x11
      = Cert.ReferenceIdeal.Read.val_main_v87 (F := Ideal) x0 x1 x2 x3 x4 x5 x6 x7 x8 x9 x10 x11 := by
  obtain ⟨⟨r0, h0⟩, ⟨r1, h1⟩, ⟨r2, h2⟩, ⟨r3, h3⟩, ⟨r4, h4⟩, ⟨r5, h5⟩, ⟨r6, h6⟩, ⟨r7, h7⟩, ⟨r8, h8⟩, ⟨r9, h9⟩, ⟨r10, h10⟩, hne⟩ :=
    Cert.Pre_tame.tame_iff x0 x1 x2 x3 x4 x5 x6 x7 x8 x9 x10 x11 h
  have hf := Cert.Features.features_eq x0 x1 x2 x3 (fun b c n => r0 (ix3 b c n)) (fun b c n => r1 (ix3 b c n))
    (fun b c n => r2 (ix3 b c n)) (fun b c n => r3 (ix3 b c n)) (fun b c n => h0 _) (fun b c n => h1 _) (fun b c n => h2 _)
    (fun b c n => h3 _) hne
  choose f hfK hfR using hf
  have l1 := layer_eq _ _ x4 x5 x6 x7 f r4 r5 r6 hfK hfR h4 h5 h6
  choose a haK haR using l1
  have hk : ∀ b k n, Cert.KernelIdeal.Values.KL (Cert.KernelIdeal.Values.KX x0 x1 x2 x3) x4 x5 x6 x7 (ix3 b k n)
      = ((max (a b k n + r7 (ix1 k)) 0 : ℝ) : EReal) := fun b k n => by
    rw [haK, h7 (ix1 k), max_real]
  have hr : ∀ b k n, Cert.ReferenceIdeal.Read.val_main_v63 (F := Ideal) x0 x1 x2 x3 x4 x5 x6 x7 (ix3 b k n)
      = ((max (a b k n + r7 (ix1 k)) 0 : ℝ) : EReal) := fun b k n => by
    rw [Cert.ReferenceIdeal.Values.v63_ix3, haR, h7 (ix1 k), max_real]
  have l2 := layer_eq _ _ x8 x9 x10 x11 (fun b k n => max (a b k n + r7 (ix1 k)) 0) r8 r9 r10 hk hr h8 h9 h10
  have h3d : ∀ (b : Fin 4) (o : Fin 128) (n : Fin 8192),
      Cert.KernelIdeal.Values.KL (Cert.KernelIdeal.Values.KL (Cert.KernelIdeal.Values.KX x0 x1 x2 x3) x4 x5 x6 x7) x8 x9 x10 x11 (ix3 b o n)
        = Cert.ReferenceIdeal.Read.val_main_v87 (F := Ideal) x0 x1 x2 x3 x4 x5 x6 x7 x8 x9 x10 x11 (ix3 b o n) := fun b o n => by
    obtain ⟨r, e1, e2⟩ := l2 b o n
    rw [Cert.ReferenceIdeal.Values.v87_ix3]
    exact e1.trans e2.symm
  funext i
  have hi := eq_ix3 i
  rw [hi]
  exact h3d (i 0) (i 1) (i 2)

end Cert.Equal

end
-- ==== Proof.lean ====
module

public import proofs.«01_k».proof.Defs
public import proofs.«01_k».proof.Proof.Gen.Kernel
public import proofs.«01_k».proof.Proof.Gen.Kernel.Skeleton
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.KernelIdeal.Frame
public import proofs.«01_k».proof.Proof.Gen.ReferenceIdeal
public import proofs.«01_k».proof.Proof.Gen.ReferenceIdeal.Run
public import proofs.«01_k».proof.Proof.Gen.ReferenceIdeal.Read
public import proofs.«01_k».proof.Proof.Run
public import proofs.«01_k».proof.Proof.Kernel
public import proofs.«01_k».proof.Proof.Equal
public import Idealize.ShloMosaic.Adequacy
public import Idealize.ShloMosaic.Init

@[expose] public section

noncomputable section

namespace Cert.Proof

open Idealize.ShloMosaic Idealize.SL.Sem Cert.Kernel

/-- The reference, run over the extended reals, leaves its arguments unchanged; it declares no semaphore, so every
    counter is zero. -/
theorem frame_reference : Cert.quiescent_ReferenceIdeal := fun m ρ _ =>
  (θ_run _ _ _).mono (fun r h => ⟨fun c => (h c).2, sem_eq_zero_of_no_sems (by decide) r.2⟩)
    (Cert.ReferenceIdeal.Value.run m ρ)

/-- From memories agreeing on tame arguments, the kernel and the reference end with equal results and unchanged arguments. -/
theorem algebraic : Cert.algebraic_KernelIdeal_ReferenceIdeal_pre_tame := fun m g m' g' hpre hagree =>
  ⟨fun c => Cert.KernelIdeal.Gen.W5 m g c (Proc.devRef .tc Cert.KernelIdeal.main_v68),
    (θ_run _ _ _).mono (fun r h c => h.1 c) (Cert.KernelIdeal.Gen.run_result m g),
    (θ_run _ _ _).mono (fun r h c => by
      refine ⟨(h c).1.trans ?_, (h c).2⟩
      obtain ⟨e0, e1, e2, e3, e4, e5, e6, e7, e8, e9, e10, e11⟩ := hagree c
      refine (Cert.ReferenceIdeal.Read.val_main_v87_eq (StableHlo.launchContents m' c)).trans ?_
      change Cert.ReferenceIdeal.Read.val_main_v87 (F := Ideal)
        (m' ((c.tc : Thread Cert.ReferenceIdeal.nD Cert.ReferenceIdeal.τ).loc Cert.ReferenceIdeal.main_arg0))
        (m' ((c.tc : Thread Cert.ReferenceIdeal.nD Cert.ReferenceIdeal.τ).loc Cert.ReferenceIdeal.main_arg1))
        (m' ((c.tc : Thread Cert.ReferenceIdeal.nD Cert.ReferenceIdeal.τ).loc Cert.ReferenceIdeal.main_arg2))
        (m' ((c.tc : Thread Cert.ReferenceIdeal.nD Cert.ReferenceIdeal.τ).loc Cert.ReferenceIdeal.main_arg3))
        (m' ((c.tc : Thread Cert.ReferenceIdeal.nD Cert.ReferenceIdeal.τ).loc Cert.ReferenceIdeal.main_arg4))
        (m' ((c.tc : Thread Cert.ReferenceIdeal.nD Cert.ReferenceIdeal.τ).loc Cert.ReferenceIdeal.main_arg5))
        (m' ((c.tc : Thread Cert.ReferenceIdeal.nD Cert.ReferenceIdeal.τ).loc Cert.ReferenceIdeal.main_arg6))
        (m' ((c.tc : Thread Cert.ReferenceIdeal.nD Cert.ReferenceIdeal.τ).loc Cert.ReferenceIdeal.main_arg7))
        (m' ((c.tc : Thread Cert.ReferenceIdeal.nD Cert.ReferenceIdeal.τ).loc Cert.ReferenceIdeal.main_arg8))
        (m' ((c.tc : Thread Cert.ReferenceIdeal.nD Cert.ReferenceIdeal.τ).loc Cert.ReferenceIdeal.main_arg9))
        (m' ((c.tc : Thread Cert.ReferenceIdeal.nD Cert.ReferenceIdeal.τ).loc Cert.ReferenceIdeal.main_arg10))
        (m' ((c.tc : Thread Cert.ReferenceIdeal.nD Cert.ReferenceIdeal.τ).loc Cert.ReferenceIdeal.main_arg11)) = _
      rw [e0, e1, e2, e3, e4, e5, e6, e7, e8, e9, e10, e11]
      exact (Cert.Equal.value_eq _ _ _ _ _ _ _ _ _ _ _ _ (hpre c)).symm.trans (Cert.KernelIdeal.Values.W5_result m g c).symm)
      (Cert.ReferenceIdeal.Value.run m' g')⟩

theorem claim : Cert.Claim :=
  ⟨Cert.Kernel.Gen.facts, Cert.KernelIdeal.Gen.facts, Cert.ReferenceIdeal.Gen.facts, Cert.Pre_tame.facts,
    fun m ρ _ => Cert.Kernel.Gen.frame m ρ, fun m ρ _ => Cert.KernelIdeal.Gen.frame m ρ,
    fun m ρ _ => Cert.KernelIdeal.Gen.frame m ρ, frame_reference, fun m ρ _ => frame_reference m ρ trivial, trivial, algebraic⟩

end Cert.Proof

end
